-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_rows_exist_logits_below_inf [hPre_rows_exist_logits_below_inf : Cert.Pre_rows_exist_logits_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_rows_exist_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_rows_exist_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist_logits_below_inf [hPre_rows_exist_logits_below_inf : Cert.Pre_rows_exist_logits_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_rows_exist_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_rows_exist_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rows_exist_logits_below_inf [hKernelIdeal : Cert.KernelIdeal.Facts] [hPre_rows_exist_logits_below_inf : Cert.Pre_rows_exist_logits_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_exist_logits_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_exist_logits_below_inf [hReferenceIdeal : Cert.ReferenceIdeal.Facts] [hPre_rows_exist_logits_below_inf : Cert.Pre_rows_exist_logits_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist_logits_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_rows_exist_logits_below_inf [hKernelIdeal : Cert.KernelIdeal.Facts] [hReferenceIdeal : Cert.ReferenceIdeal.Facts] [hPre_rows_exist_logits_below_inf : Cert.Pre_rows_exist_logits_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_exist_logits_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_exist : Cert.Pre_rows_exist.Facts) (hPre_rows_exist_logits_below_inf : Cert.Pre_rows_exist_logits_below_inf.Facts),
    quiescent_Kernel (hKernel := hKernel) (hPre_rows_exist := hPre_rows_exist)
    ∧ quiescent_KernelIdeal (hKernelIdeal := hKernelIdeal) (hPre_rows_exist := hPre_rows_exist)
    ∧ quiescent_KernelIdeal_pre_rows_exist_logits_below_inf (hKernelIdeal := hKernelIdeal) (hPre_rows_exist_logits_below_inf := hPre_rows_exist_logits_below_inf)
    ∧ quiescent_ReferenceIdeal (hReferenceIdeal := hReferenceIdeal)
    ∧ quiescent_ReferenceIdeal_pre_rows_exist_logits_below_inf (hReferenceIdeal := hReferenceIdeal) (hPre_rows_exist_logits_below_inf := hPre_rows_exist_logits_below_inf)
    ∧ preserves_Kernel_KernelIdeal
    ∧ algebraic_KernelIdeal_ReferenceIdeal_pre_rows_exist_logits_below_inf (hKernelIdeal := hKernelIdeal) (hReferenceIdeal := hReferenceIdeal) (hPre_rows_exist_logits_below_inf := hPre_rows_exist_logits_below_inf)
-- ==== Pre_rows_exist.lean ====
abbrev S4 : Shape := ⟨1, ![4]⟩
abbrev S100000x30 : Shape := ⟨2, ![100000, 30]⟩
abbrev S120x100 : Shape := ⟨2, ![120, 100]⟩
abbrev S100 : Shape := ⟨1, ![100]⟩
abbrev S100x100000 : Shape := ⟨2, ![100, 100000]⟩
abbrev S100000 : Shape := ⟨1, ![100000]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S100000x30 .f32) (main_arg2 : FVec F S120x100 .f32) (main_arg3 : FVec F S100 .f32) (main_arg4 : FVec F S100x100000 .f32) (main_arg5 : FVec F S100000 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 100000#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_rows_exist_logits_below_inf.lean ====
abbrev S4 : Shape := ⟨1, ![4]⟩
abbrev S100000x30 : Shape := ⟨2, ![100000, 30]⟩
abbrev S120x100 : Shape := ⟨2, ![120, 100]⟩
abbrev S100 : Shape := ⟨1, ![100]⟩
abbrev S100x100000 : Shape := ⟨2, ![100, 100000]⟩
abbrev S100000 : Shape := ⟨1, ![100000]⟩
abbrev S_ : Shape := ⟨0, ![]⟩

class Facts : Prop where
  bcast_S_S4 : S_.BroadcastsInDim S4 (![] : Fin 0 → Fin S4.rank)
  bcast_S_S100x100000 : S_.BroadcastsInDim S100x100000 (![] : Fin 0 → Fin S100x100000.rank)
  bcast_S_S100000 : S_.BroadcastsInDim S100000 (![] : Fin 0 → Fin S100000.rank)

variable [Facts]

def fn {F : FTy → Type} [FloatOps F] (main_arg0 : IVec S4 32) (main_arg1 : FVec F S100000x30 .f32) (main_arg2 : FVec F S120x100 .f32) (main_arg3 : FVec F S100 .f32) (main_arg4 : FVec F S100x100000 .f32) (main_arg5 : FVec F S100000 .f32) : IVec S4 1 × IVec S100x100000 1 × IVec S100000 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 100000#32
  let main_v2 : IVec S4 32 := broadcastInDim S4 ![] bcast_S_S4 main_c_0
  let main_v3 : IVec S4 1 := cmpi .slt main_arg0 main_v2
  let main_v4 : IVec S4 1 := andi main_v1 main_v3
  let main_v5 : FVec F S100x100000 .f32 := Host.absf main_arg4
  let main_cst : FVec F S_ .f32 := constant S_ .f32 0x7F800000#32
  let main_v6 : FVec F S100x100000 .f32 := broadcastInDim S100x100000 ![] bcast_S_S100x100000 main_cst
  let main_v7 : IVec S100x100000 1 := cmpf .olt main_v5 main_v6
  let main_cst_1 : FVec F S_ .f32 := constant S_ .f32 0x7F800000#32
  let main_v8 : FVec F S100000 .f32 := broadcastInDim S100000 ![] bcast_S_S100000 main_cst_1
  let main_v9 : IVec S100000 1 := cmpf .olt main_arg5 main_v8
  (main_v4, main_v7, main_v9)
-- ==== Kernel.lean ====
abbrev S4 : Shape := ⟨1, ![4]⟩
abbrev S100000x30 : Shape := ⟨2, ![100000, 30]⟩
abbrev S120x100 : Shape := ⟨2, ![120, 100]⟩
abbrev S100 : Shape := ⟨1, ![100]⟩
abbrev S100x100000 : Shape := ⟨2, ![100, 100000]⟩
abbrev S100000 : Shape := ⟨1, ![100000]⟩
abbrev S4x30x100 : Shape := ⟨3, ![4, 30, 100]⟩
abbrev S1x100 : Shape := ⟨2, ![1, 100]⟩
abbrev S1x100000 : Shape := ⟨2, ![1, 100000]⟩
abbrev S100x6400 : Shape := ⟨2, ![100, 6400]⟩
abbrev S1x12800 : Shape := ⟨2, ![1, 12800]⟩
abbrev S4x30 : Shape := ⟨2, ![4, 30]⟩
abbrev S8x12800 : Shape := ⟨2, ![8, 12800]⟩
abbrev S2 : Shape := ⟨1, ![2]⟩
abbrev S_ : Shape := ⟨0, ![]⟩
abbrev S1 : Shape := ⟨1, ![1]⟩
abbrev S1x30 : Shape := ⟨2, ![1, 30]⟩
abbrev S30 : Shape := ⟨1, ![30]⟩
abbrev S4x30x1 : Shape := ⟨3, ![4, 30, 1]⟩
abbrev S1x6400 : Shape := ⟨2, ![1, 6400]⟩
abbrev S1x1x6400 : Shape := ⟨3, ![1, 1, 6400]⟩
abbrev S1x1x1 : Shape := ⟨3, ![1, 1, 1]⟩

abbrev nBuf : Space → Nat
  | .hbm => 10
  | .vmem => 13
  | .smem => 2
  | _ => 0

abbrev bufTy : (tb : Table) → Fin (tcTables nBuf tb) → BufTy
  | .hbm, ⟨0, _⟩ => ⟨S4, .i32⟩
  | .hbm, ⟨1, _⟩ => ⟨S100000x30, .f32⟩
  | .hbm, ⟨2, _⟩ => ⟨S120x100, .f32⟩
  | .hbm, ⟨3, _⟩ => ⟨S100, .f32⟩
  | .hbm, ⟨4, _⟩ => ⟨S100x100000, .f32⟩
  | .hbm, ⟨5, _⟩ => ⟨S100000, .f32⟩
  | .hbm, ⟨6, _⟩ => ⟨S4x30x100, .f32⟩
  | .hbm, ⟨7, _⟩ => ⟨S1x100, .f32⟩
  | .hbm, ⟨8, _⟩ => ⟨S1x100000, .f32⟩
  | .hbm, ⟨9, _⟩ => ⟨S1x100000, .f32⟩
  | .local _ .vmem, ⟨0, _⟩ => ⟨S4x30x100, .f32⟩
  | .local _ .vmem, ⟨1, _⟩ => ⟨S1x100, .f32⟩
  | .local _ .vmem, ⟨2, _⟩ => ⟨S100x6400, .f32⟩
  | .local _ .vmem, ⟨3, _⟩ => ⟨S100x6400, .f32⟩
  | .local _ .vmem, ⟨4, _⟩ => ⟨S100x6400, .f32⟩
  | .local _ .vmem, ⟨5, _⟩ => ⟨S100x6400, .f32⟩
  | .local _ .vmem, ⟨6, _⟩ => ⟨S1x12800, .f32⟩
  | .local _ .vmem, ⟨7, _⟩ => ⟨S1x12800, .f32⟩
  | .local _ .vmem, ⟨8, _⟩ => ⟨S1x12800, .f32⟩
  | .local _ .vmem, ⟨9, _⟩ => ⟨S1x12800, .f32⟩
  | .local _ .vmem, ⟨10, _⟩ => ⟨S4x30, .f32⟩
  | .local _ .vmem, ⟨11, _⟩ => ⟨S1x100, .f32⟩
  | .local _ .vmem, ⟨12, _⟩ => ⟨S8x12800, .f32⟩
  | .local _ .smem, ⟨0, _⟩ => ⟨S4, .i32⟩
  | .local _ .smem, ⟨1, _⟩ => ⟨S2, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_scratch3 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (v11 : BitVec 32) : Fin 2 → Nat :=
  let c0_i32_7 : BitVec 32 := 0#32
  ![v11.toNat, 0]

def k0_chk1 (i : grid0.Coords) (v11 : BitVec 32) : Prop :=
  (∀ (k0_h1 : k0_cond1 i = 1#1), ∀ a, (k0_off1 v11) a + S1x30.size a ≤ S100000x30.size a)
theorem k0_off1_inb : ∀ (i : grid0.Coords) (v11 : BitVec 32) (k0_hw1 : k0_chk1 i v11), ∀ (k0_h1 : k0_cond1 i = 1#1), ∀ a, (k0_off1 v11) a + S1x30.size a ≤ S100000x30.size a := fun i v11 k0_hw1 k0_h1 => k0_hw1 k0_h1

def k0_off2 (v20 : BitVec 32) : Fin 2 → Nat :=
  let c0_i32_13 : BitVec 32 := 0#32
  ![v20.toNat, 0]

def k0_chk2 (i : grid0.Coords) (v20 : BitVec 32) : Prop :=
  (∀ (k0_h1 : k0_cond1 i = 1#1), ∀ a, (k0_off2 v20) a + S1x30.size a ≤ S100000x30.size a)
theorem k0_off2_inb : ∀ (i : grid0.Coords) (v20 : BitVec 32) (k0_hw2 : k0_chk2 i v20), ∀ (k0_h1 : k0_cond1 i = 1#1), ∀ a, (k0_off2 v20) a + S1x30.size a ≤ S100000x30.size a := fun i v20 k0_hw2 k0_h1 => k0_hw2 k0_h1

def k0_off3 (v29 : BitVec 32) : Fin 2 → Nat :=
  let c0_i32_18 : BitVec 32 := 0#32
  ![v29.toNat, 0]

def k0_chk3 (i : grid0.Coords) (v29 : BitVec 32) : Prop :=
  (∀ (k0_h1 : k0_cond1 i = 1#1), ∀ a, (k0_off3 v29) a + S1x30.size a ≤ S100000x30.size a)
theorem k0_off3_inb : ∀ (i : grid0.Coords) (v29 : BitVec 32) (k0_hw3 : k0_chk3 i v29), ∀ (k0_h1 : k0_cond1 i = 1#1), ∀ a, (k0_off3 v29) a + S1x30.size a ≤ S100000x30.size a := fun i v29 k0_hw3 k0_h1 => k0_hw3 k0_h1

def k0_off4 (v38 : BitVec 32) : Fin 2 → Nat :=
  let c0_i32_23 : BitVec 32 := 0#32
  ![v38.toNat, 0]

def k0_chk4 (i : grid0.Coords) (v38 : BitVec 32) : Prop :=
  (∀ (k0_h1 : k0_cond1 i = 1#1), ∀ a, (k0_off4 v38) a + S1x30.size a ≤ S100000x30.size a)
theorem k0_off4_inb : ∀ (i : grid0.Coords) (v38 : BitVec 32) (k0_hw4 : k0_chk4 i v38), ∀ (k0_h1 : k0_cond1 i = 1#1), ∀ a, (k0_off4 v38) a + S1x30.size a ≤ S100000x30.size a := fun i v38 k0_hw4 k0_h1 => k0_hw4 k0_h1

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off5 (i : grid0.Coords) : Fin 2 → Nat :=
  let arg1 : BitVec 32 := BitVec.ofNat 32 (i 1).val
  let v69 : Index := Scalar.indexCast arg1
  let c0_24 : Index := 0#32
  ![v69.toNat, 0]
def k0_off6 (i : grid0.Coords) : Fin 2 → Nat :=
  let arg1 : BitVec 32 := BitVec.ofNat 32 (i 1).val
  let v73 : Index := Scalar.indexCast arg1
  let c6400_25 : Index := 6400#32
  ![v73.toNat, 6400]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off7 (i : grid0.Coords) : Fin 2 → Nat :=
  let arg1 : BitVec 32 := BitVec.ofNat 32 (i 1).val
  let v15 : Index := Scalar.indexCast arg1
  let c0_5 : Index := 0#32
  ![v15.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c14_i32 : BitVec 32 := 14#32
  let v2 : BitVec 32 := Scalar.select v0 v1 c14_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c1_i32 : BitVec 32 := 1#32
  let v2 : BitVec 32 := Scalar.addi v1 c1_i32
  let c15_i32 : BitVec 32 := 15#32
  let v3 : BitVec 32 := Scalar.select v0 v2 c15_i32
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x30x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S100x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S100x6400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x12800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4 : Shape := ⟨1, ![4]⟩
abbrev S100000x30 : Shape := ⟨2, ![100000, 30]⟩
abbrev S120x100 : Shape := ⟨2, ![120, 100]⟩
abbrev S100 : Shape := ⟨1, ![100]⟩
abbrev S100x100000 : Shape := ⟨2, ![100, 100000]⟩
abbrev S100000 : Shape := ⟨1, ![100000]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x30 : Shape := ⟨2, ![4, 30]⟩
abbrev S1x120 : Shape := ⟨2, ![1, 120]⟩
abbrev S1x100 : Shape := ⟨2, ![1, 100]⟩
abbrev S1x100000 : Shape := ⟨2, ![1, 100000]⟩

abbrev nBuf : Space → Nat
  | .hbm => 52
  | .vmem => 0
  | .smem => 0
  | _ => 0

abbrev bufTy : (tb : Table) → Fin (tcTables nBuf tb) → BufTy
  | .hbm, ⟨0, _⟩ => ⟨S4, .i32⟩
  | .hbm, ⟨1, _⟩ => ⟨S100000x30, .f32⟩
  | .hbm, ⟨2, _⟩ => ⟨S120x100, .f32⟩
  | .hbm, ⟨3, _⟩ => ⟨S100, .f32⟩
  | .hbm, ⟨4, _⟩ => ⟨S100x100000, .f32⟩
  | .hbm, ⟨5, _⟩ => ⟨S100000, .f32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S1, .i32⟩
  | .hbm, ⟨15, _⟩ => ⟨S_, .i32⟩
  | .hbm, ⟨16, _⟩ => ⟨S4x1, .i32⟩
  | .hbm, ⟨17, _⟩ => ⟨S4x1, .i1⟩
  | .hbm, ⟨18, _⟩ => ⟨S1x1, .i32⟩
  | .hbm, ⟨19, _⟩ => ⟨S4x1, .i32⟩
  | .hbm, ⟨20, _⟩ => ⟨S4x1, .i1⟩
  | .hbm, ⟨21, _⟩ => ⟨S4x1, .i1⟩
  | .hbm, ⟨22, _⟩ => ⟨S_, .i1⟩
  | .hbm, ⟨23, _⟩ => ⟨S4, .i1⟩
  | .hbm, ⟨24, _⟩ => ⟨S4x30, .f32⟩
  | .hbm, ⟨25, _⟩ => ⟨S4x30, .i1⟩
  | .hbm, ⟨26, _⟩ => ⟨S_, .f32⟩
  | .hbm, ⟨27, _⟩ => ⟨S4x30, .f32⟩
  | .hbm, ⟨28, _⟩ => ⟨S4x30, .f32⟩
  | .hbm, ⟨29, _⟩ => ⟨S1x120, .f32⟩
  | .hbm, ⟨30, _⟩ => ⟨S1x100, .f32⟩
  | .hbm, ⟨31, _⟩ => ⟨S1x100, .f32⟩
  | .hbm, ⟨32, _⟩ => ⟨S1x100, .f32⟩
  | .hbm, ⟨33, _⟩ => ⟨S1x100, .f32⟩
  | .hbm, ⟨34, _⟩ => ⟨S1x100000, .f32⟩
  | .hbm, ⟨35, _⟩ => ⟨S1x100000, .f32⟩
  | .hbm, ⟨36, _⟩ => ⟨S1x100000, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x100000, .f32⟩
  | .hbm, ⟨44, _⟩ => ⟨S1x100000, .f32⟩
  | .hbm, ⟨45, _⟩ => ⟨S1x100000, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x1, .f32⟩
  | .hbm, ⟨50, _⟩ => ⟨S1x100000, .f32⟩
  | .hbm, ⟨51, _⟩ => ⟨S1x100000, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_call1_cst_0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_cst_1 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v9 : Ref sig .tc := ⟨.hbm, 51, rfl⟩

abbrev nD : Nat := 1
abbrev τ : Topo := Topo.v7x

variable {F : FTy → Type} [FloatOps F]
-- ==== Proof.KernelIdeal.Base.lean ====
/-
  Names shared by the runs of the kernel's body: the algebra of the proof, and the kernel's scratch buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.ValueIdx
public import Idealize.ShloMosaic.Lib.VecWindow
public import Idealize.ShloMosaic.Lib.CellWrites
public import Idealize.ShloMosaic.Lib.WordCmp
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

/-- The gathered embedding rows. -/
abbrev scE : Memref sig .tc .vmem S4x30 .f32 := Memref.whole cc0_scratch0
/-- The hidden vector. -/
abbrev scH : Memref sig .tc .vmem S1x100 .f32 := Memref.whole cc0_scratch1
/-- The logits of the first pass, one row per block. -/
abbrev scL : Memref sig .tc .vmem S8x12800 .f32 := Memref.whole cc0_scratch2
/-- The running maximum and the running sum. -/
abbrev scMS : Memref sig .tc .smem S2 .f32 := Memref.whole cc0_scratch3
/-- The embedding table, left where it is. -/
abbrev hbE : Memref sig .tc .hbm S100000x30 .f32 := Memref.whole main_arg1

variable {F : FTy → Type} [FloatOps F]

/-! ## What one point of the grid computes, over the values it reads -/

/-- The four embedding rows the words `x` name. -/
def gath (x : S4.Idx → Elt F .i32) (E : S100000x30.Idx → Elt F .f32) : Vec F S4x30 .f32 := fun y =>
  E (ix2 ⟨(show BitVec 32 from x (ix1 (y 0))).toNat % 100000, Nat.mod_lt _ (by decide)⟩ (y 1))

/-- The left half of a block of the bias. -/
def biasL (b : S1x12800.Idx → Elt F .f32) : Vec F S1x6400 .f32 := fun y =>
  b (ix2 0 ⟨(y 1).val, Nat.lt_trans (show (y 1).val < 6400 from (y 1).isLt) (by decide)⟩)

/-- The right half of a block of the bias. -/
def biasR (b : S1x12800.Idx → Elt F .f32) : Vec F S1x6400 .f32 := fun y =>
  b (ix2 0 ⟨6400 + (y 1).val, Nat.add_lt_add_left (show (y 1).val < 6400 from (y 1).isLt) 6400⟩)

/-- The block number of a point, as the body reads it. -/
abbrev jw (i : grid0.Coords) : BitVec 32 := BitVec.ofNat 32 (i 1).val

/-- The running maximum after a block. -/
def newM (i : grid0.Coords) (h : Vec F S1x100 .f32) (wa wb : Vec F S100x6400 .f32) (b : S1x12800.Idx → Elt F .f32)
    (m : Elt F .f32) : Elt F .f32 :=
  k0_pay11 (jw i) h wa (biasL b) wb (biasR b) m

/-- The running sum after a block. -/
def newS (i : grid0.Coords) (h : Vec F S1x100 .f32) (wa wb : Vec F S100x6400 .f32) (b : S1x12800.Idx → Elt F .f32)
    (m s : Elt F .f32) : Elt F .f32 :=
  k0_pay2 (k0_pay9 (jw i) h wa (biasL b)) (k0_pay10 (jw i) h wb (biasR b)) (newM i h wa wb b m) s
    (k0_pay12 (jw i) h wa (biasL b) wb (biasR b) m)

/-- The two words of scalar memory. -/
def two (m s : Elt F .f32) : S2.Idx → Elt F .f32 := fun y => if (y 0).val = 0 then m else s

/-- The scalar memory after a block: the new running maximum and the new running sum. -/
def newMS (i : grid0.Coords) (h : Vec F S1x100 .f32) (wa wb : Vec F S100x6400 .f32) (b : S1x12800.Idx → Elt F .f32)
    (ms : S2.Idx → Elt F .f32) : S2.Idx → Elt F .f32 :=
  two (newM i h wa wb b (ms (ix1 0))) (newS i h wa wb b (ms (ix1 0)) (ms (ix1 1)))

/-- The logits after a block: the block's row replaced, its left half from the left product, its right half from the
    right product. -/
def newL (i : grid0.Coords) (h : Vec F S1x100 .f32) (wa wb : Vec F S100x6400 .f32) (b : S1x12800.Idx → Elt F .f32)
    (L : S8x12800.Idx → Elt F .f32) : S8x12800.Idx → Elt F .f32 := fun y =>
  if (y 0).val = (i 1).val then
    if hy : (y 1).val < 6400 then k0_pay6 h wa (biasL b) (ix2 0 ⟨(y 1).val, hy⟩)
    else k0_pay7 h wb (biasR b) (ix2 0 ⟨(y 1).val - 6400, by
      have : (y 1).val < 12800 := (y 1).isLt
      omega⟩)
  else L y

/-- The hidden vector and the scalar memory the first point starts from. -/
def hid (x : S4.Idx → Elt F .i32) (E : S100000x30.Idx → Elt F .f32) (w : Vec F S4x30x100 .f32) (b : Vec F S1x100 .f32) :
    Vec F S1x100 .f32 := k0_pay1 (gath x E) w b
def ms0 : S2.Idx → Elt F .f32 := two (Scalar.ofBits .f32 0xFF800000#32) (Scalar.ofBits .f32 0x00000000#32)

/-! ## The offsets the body computes from the block number -/

theorem word_toNat (i : grid0.Coords) : (BitVec.ofNat 32 (i 1).val).toNat = (i 1).val := by
  have : (i 1).val < 8 := (i 1).isLt
  rw [BitVec.toNat_ofNat]; omega

theorem off5_eq (i : grid0.Coords) : k0_off5 i = ![(i 1).val, 0] := by
  simp only [k0_off5, Scalar.indexCast]; rw [word_toNat]
theorem off6_eq (i : grid0.Coords) : k0_off6 i = ![(i 1).val, 6400] := by
  simp only [k0_off6, Scalar.indexCast]; rw [word_toNat]
theorem off7_eq (i : grid0.Coords) : k0_off7 i = ![(i 1).val, 0] := by
  simp only [k0_off7, Scalar.indexCast]; rw [word_toNat]

/-! ## What the body's loads and stores read and leave -/

section Views

variable {sp : Space} {G : FTy → Type}

/-- The load of the left half of a bias block reads its left half. -/
theorem read_biasL (v : View sig .tc sp S1x12800 .f32) (f : v.ty.Contents (Elt F)) :
    v.readAt (Elt F) (Rect.unit (s := S1x12800) ![0, 0] S1x6400.size inb_S1x12800_S1x6400_0_0).toLoadRect f
      = biasL (v.read (Elt F) f) := by
  funext y
  refine congrArg (v.read (Elt F) f) (funext fun a => Fin.ext ?_)
  fin_cases a
  · show 0 + 1 * (y 0).val = 0
    have : (y 0).val < 1 := (y 0).isLt
    omega
  · show 0 + 1 * (y 1).val = (y 1).val
    omega

/-- The load of the right half of a bias block reads its right half. -/
theorem read_biasR (v : View sig .tc sp S1x12800 .f32) (f : v.ty.Contents (Elt F)) :
    v.readAt (Elt F) (Rect.unit (s := S1x12800) ![0, 6400] S1x6400.size inb_S1x12800_S1x6400_0_6400).toLoadRect f
      = biasR (v.read (Elt F) f) := by
  funext y
  refine congrArg (v.read (Elt F) f) (funext fun a => Fin.ext ?_)
  fin_cases a
  · show 0 + 1 * (y 0).val = 0
    have : (y 0).val < 1 := (y 0).isLt
    omega
  · show 6400 + 1 * (y 1).val = 6400 + (y 1).val
    omega

/-- Two stores, the first word after the second, leave the two stored words. -/
theorem read_two (v : View sig .tc sp S2 .f32) (f : v.ty.Contents (Elt F)) (a b : Elt F .f32)
    (P : List (View.Piece (Elt F) S2 .f32)) :
    v.read (Elt F) (v.writes (Elt F) f
        (⟨Rect.unit (s := S2) ![0] ![1] inb_S2_S1_0, fun _ => a⟩ :: ⟨Rect.unit (s := S2) ![1] ![1] inb_S2_S1_1, fun _ => b⟩ :: P))
      = two a b := by
  funext y
  have e0 := View.read_writes_cons_cell v f inb_S2_S1_0 a
    (⟨Rect.unit (s := S2) ![1] ![1] inb_S2_S1_1, fun _ => b⟩ :: P) y
  have e1 := View.read_writes_cons_cell v f inb_S2_S1_1 b P y
  refine e0.trans ?_
  unfold two
  by_cases h : (y 0).val = 0
  · rw [if_pos (show (y 0).val = (![0] : Fin 1 → ℕ) 0 from h), if_pos h]
  · rw [if_neg (show ¬ (y 0).val = (![0] : Fin 1 → ℕ) 0 from h), if_neg h]
    refine e1.trans (if_pos ?_)
    have : (y 0).val < 2 := (y 0).isLt
    show (y 0).val = 1
    omega

/-- Two stores, the second word after the first, leave the two stored words. -/
theorem read_two' (v : View sig .tc sp S2 .f32) (f : v.ty.Contents (Elt F)) (a b : Elt F .f32)
    (P : List (View.Piece (Elt F) S2 .f32)) :
    v.read (Elt F) (v.writes (Elt F) f
        (⟨Rect.unit (s := S2) ![1] ![1] inb_S2_S1_1, fun _ => b⟩ :: ⟨Rect.unit (s := S2) ![0] ![1] inb_S2_S1_0, fun _ => a⟩ :: P))
      = two a b := by
  funext y
  have e0 := View.read_writes_cons_cell v f inb_S2_S1_1 b
    (⟨Rect.unit (s := S2) ![0] ![1] inb_S2_S1_0, fun _ => a⟩ :: P) y
  have e1 := View.read_writes_cons_cell v f inb_S2_S1_0 a P y
  refine e0.trans ?_
  unfold two
  have hy : (y 0).val < 2 := (y 0).isLt
  by_cases h : (y 0).val = 0
  · rw [if_neg (show ¬ (y 0).val = (![1] : Fin 1 → ℕ) 0 from by show ¬ (y 0).val = 1; omega), if_pos h]
    exact e1.trans (if_pos h)
  · rw [if_pos (show (y 0).val = (![1] : Fin 1 → ℕ) 0 from by show (y 0).val = 1; omega), if_neg h]

/-- The stores of the two halves of a block's row leave the logits with that row replaced. -/
theorem read_rows (i : grid0.Coords) (h2 : k0_cond2 i = 1#1) (v : View sig .tc sp S8x12800 .f32) (f : v.ty.Contents (Elt F))
    (h : Vec F S1x100 .f32) (wa wb : Vec F S100x6400 .f32) (b : S1x12800.Idx → Elt F .f32) :
    v.read (Elt F) (v.writes (Elt F) f
        [⟨Rect.unit (s := S8x12800) (k0_off6 i) ![1, 6400] (k0_off6_inb i h2), k0_pay4 (k0_pay7 h wb (biasR b))⟩,
         ⟨Rect.unit (s := S8x12800) (k0_off5 i) ![1, 6400] (k0_off5_inb i h2), k0_pay3 (k0_pay6 h wa (biasL b))⟩])
      = newL i h wa wb b (v.read (Elt F) f) := by
  funext y
  have hy0 : (y 0).val < 8 := (y 0).isLt
  have hy1 : (y 1).val < 12800 := (y 1).isLt
  have p3 : k0_pay3 (k0_pay6 h wa (biasL b)) = k0_pay6 h wa (biasL b) := shapeCast_self _ _
  have p4 : k0_pay4 (k0_pay7 h wb (biasR b)) = k0_pay7 h wb (biasR b) := shapeCast_self _ _
  rw [p3, p4]
  unfold newL
  by_cases hr : (y 0).val = (i 1).val
  · rw [if_pos hr]
    by_cases hc : (y 1).val < 6400
    · rw [dif_pos hc, View.read_writes_cons_unit_of_not_mem v f _ _ _ y (off6_eq i) 1 (Or.inl hc)]
      exact View.read_writes_cons_unit_of_mem v f _ _ _ y (ix2 0 ⟨(y 1).val, hc⟩) (off5_eq i) (by
        intro a
        fin_cases a
        · show (y 0).val = (i 1).val + 0
          omega
        · show (y 1).val = 0 + (y 1).val
          omega)
    · rw [dif_neg hc]
      exact View.read_writes_cons_unit_of_mem v f _ _ _ y (ix2 0 ⟨(y 1).val - 6400, by omega⟩) (off6_eq i) (by
        intro a
        fin_cases a
        · show (y 0).val = (i 1).val + 0
          omega
        · show (y 1).val = 6400 + ((y 1).val - 6400)
          omega)
  · rw [if_neg hr]
    have hm : (y 0).val < (i 1).val ∨ (i 1).val + 1 ≤ (y 0).val := by omega
    rw [View.read_writes_cons_unit_of_not_mem v f _ _ _ y (off6_eq i) 0
        (show (y 0).val < (![(i 1).val, 6400] : Fin 2 → ℕ) 0 ∨ (![(i 1).val, 6400] : Fin 2 → ℕ) 0 + (![1, 6400] : Fin 2 → ℕ) 0 ≤ (y 0).val from hm),
      View.read_writes_cons_unit_of_not_mem v f _ _ _ y (off5_eq i) 0
        (show (y 0).val < (![(i 1).val, 0] : Fin 2 → ℕ) 0 ∨ (![(i 1).val, 0] : Fin 2 → ℕ) 0 + (![1, 6400] : Fin 2 → ℕ) 0 ≤ (y 0).val from hm)]
    rfl

/-! ### The rows of the table, copied one by one -/

/-- A position of a row of thirty, seen as a position of a one-row block. -/
theorem equivRow (h : S30.numel = S1x30.numel) (e : S30.Idx) : Shape.reshapeEquiv h e = ix2 0 (e 0) :=
  Shape.reshapeEquiv_eq_of_rowMajor h (by
    refine (Shape.rowMajor_val_two _).trans (Eq.trans ?_ (Shape.rowMajor_val_one _).symm)
    show 0 * 30 + (e 0).val = (e 0).val
    omega)

/-- A position of a one-row block, seen as a position of a row of thirty. -/
theorem equivRow_symm (h : S30.numel = S1x30.numel) (x : S1x30.Idx) : (Shape.reshapeEquiv h).symm x = ix1 (x 1) := by
  refine (Equiv.symm_apply_eq _).mpr (Eq.trans ?_ (equivRow h _).symm)
  funext a
  fin_cases a
  · exact Subsingleton.elim (α := Fin 1) _ _
  · rfl

/-- The copy into row `r` of the gathered rows replaces that row. -/
theorem read_rowcopy (r : ℕ) (inb : ∀ a, (![r, 0] : Fin 2 → ℕ) a + (![1, 30] : Fin 2 → ℕ) a ≤ S4x30.size a)
    (hr : ∀ a, (Rect.unit (s := S4x30) ![r, 0] ![1, 30] inb).stride a = 1)
    (hq : (Rect.unit (s := S4x30) ![r, 0] ![1, 30] inb).shape.Squeezes S30)
    (f : scE.view.ty.Contents (Elt F)) (w : S30.Idx → Elt F .f32) (y : S4x30.Idx) :
    scE.view.read (Elt F) (View.write (Elt F) ((scE.slice (Rect.unit (s := S4x30) ![r, 0] ![1, 30] inb) hr).squeeze S30 hq).view
        f w Finset.univ) y
      = if (y 0).val = r then w (ix1 (y 1)) else scE.view.read (Elt F) f y := by
  have e := View.write_reshape_univ (Val := Elt F) (v := (scE.slice (Rect.unit (s := S4x30) ![r, 0] ![1, 30] inb) hr).view)
    hq.numel_eq f w
  have hy : (y 0).val < 4 := (y 0).isLt
  refine (congrFun (congrArg (scE.view.read (Elt F)) e) y).trans ?_
  by_cases h : (y 0).val = r
  · rw [if_pos h]
    refine (View.read_writes_cons_unit_of_mem scE.view f inb _ [] y (ix2 0 (y 1)) rfl ?_).trans ?_
    · intro a
      fin_cases a
      · show (y 0).val = r + 0
        omega
      · show (y 1).val = 0 + (y 1).val
        omega
    · exact congrArg w (equivRow_symm hq.numel_eq _)
  · rw [if_neg h]
    exact View.read_writes_cons_unit_of_not_mem scE.view f inb _ [] y rfl 0
      (show (y 0).val < r ∨ r + 1 ≤ (y 0).val by omega)

/-- The row of the table a word names, as the copy reads it. -/
theorem read_rowsrc (w : BitVec 32) (hw : w.toNat < 100000)
    (inb : ∀ a, (![w.toNat, 0] : Fin 2 → ℕ) a + (![1, 30] : Fin 2 → ℕ) a ≤ S100000x30.size a)
    (hr : ∀ a, (Rect.unit (s := S100000x30) ![w.toNat, 0] ![1, 30] inb).stride a = 1)
    (hq : (Rect.unit (s := S100000x30) ![w.toNat, 0] ![1, 30] inb).shape.Squeezes S30)
    (f : hbE.view.ty.Contents (Elt F)) (e : Fin 30) :
    View.read (Elt F) ((hbE.slice (Rect.unit (s := S100000x30) ![w.toNat, 0] ![1, 30] inb) hr).squeeze S30 hq).view f (ix1 e)
      = hbE.view.read (Elt F) f (ix2 ⟨w.toNat % 100000, Nat.mod_lt _ (by decide)⟩ e) := by
  have h := equivRow hq.numel_eq (ix1 e)
  show hbE.view.read (Elt F) f ((Rect.unit (s := S100000x30) ![w.toNat, 0] ![1, 30] inb).emb (Shape.reshapeEquiv hq.numel_eq (ix1 e))) = _
  rw [h]
  refine congrArg (hbE.view.read (Elt F) f) (funext fun a => Fin.ext ?_)
  fin_cases a
  · show w.toNat + 1 * 0 = w.toNat % 100000
    rw [Nat.mod_eq_of_lt hw]; omega
  · show 0 + 1 * e.val = e.val
    omega

end Views

end Cert.KernelIdeal.Hand

end
-- ==== Proof.KernelIdeal.Init.lean ====
/-
  The first point of the body: the kernel copies the four embedding rows the words name, computes the hidden vector,
  starts the running maximum and the running sum, and then does what every point of the first pass does.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The words name rows of the table, so every side condition of the row copies holds. -/
def RowsOk (X : S4.Idx → Elt F .i32) : Prop := ∀ y : S4.Idx, (show BitVec 32 from X y).toNat < 100000

theorem chk1_of (i : grid0.Coords) (w : BitVec 32) (hw : w.toNat < 100000) : k0_chk1 i w := by
  unfold k0_chk1 k0_off1; intro _ a; fin_cases a
  · show w.toNat + 1 ≤ 100000
    omega
  · show 0 + 30 ≤ 30
    omega
theorem chk2_of (i : grid0.Coords) (w : BitVec 32) (hw : w.toNat < 100000) : k0_chk2 i w := by
  unfold k0_chk2 k0_off2; intro _ a; fin_cases a
  · show w.toNat + 1 ≤ 100000
    omega
  · show 0 + 30 ≤ 30
    omega
theorem chk3_of (i : grid0.Coords) (w : BitVec 32) (hw : w.toNat < 100000) : k0_chk3 i w := by
  unfold k0_chk3 k0_off3; intro _ a; fin_cases a
  · show w.toNat + 1 ≤ 100000
    omega
  · show 0 + 30 ≤ 30
    omega
theorem chk4_of (i : grid0.Coords) (w : BitVec 32) (hw : w.toNat < 100000) : k0_chk4 i w := by
  unfold k0_chk4 k0_off4; intro _ a; fin_cases a
  · show w.toNat + 1 ≤ 100000
    omega
  · show 0 + 30 ≤ 30
    omega

theorem init_run (c : Dev nD) (i : grid0.Coords) (h1 : k0_cond1 i = 1#1) (h2 : k0_cond2 i = 1#1)
    (h3 : ¬ k0_cond3 i = 1#1)
    (arg2 : Memref sig .tc .smem S4 .i32) (harg2 : arg2.IsWhole)
    (arg4 : Memref sig .tc .vmem S4x30x100 .f32) (harg4 : arg4.IsWhole)
    (arg5 : Memref sig .tc .vmem S1x100 .f32) (harg5 : arg5.IsWhole)
    (arg6 : Memref sig .tc .vmem S100x6400 .f32) (harg6 : arg6.IsWhole)
    (arg7 : Memref sig .tc .vmem S100x6400 .f32) (harg7 : arg7.IsWhole)
    (arg8 : Memref sig .tc .vmem S1x12800 .f32) (harg8 : arg8.IsWhole)
    (arg9 : Memref sig .tc .vmem S1x12800 .f32) (harg9 : arg9.IsWhole)
    (X2 : S4.Idx → Elt F .i32) (hX2 : RowsOk (F := F) X2)
    (X4 : S4x30x100.Idx → Elt F .f32) (X5 : S1x100.Idx → Elt F .f32)
    (X6 X7 : S100x6400.Idx → Elt F .f32) (X8 : S1x12800.Idx → Elt F .f32)
    (E : S100000x30.Idx → Elt F .f32)
    (L : S8x12800.Idx → Elt F .f32) (W : Waits sig Unit) (K : PUnit → sProp 𝕄) :
    iprop(owns (c : Thread nD τ) arg2 fullShare X2 ∗ owns (c : Thread nD τ) arg4 fullShare X4
        ∗ owns (c : Thread nD τ) arg5 fullShare X5
        ∗ owns (c : Thread nD τ) arg6 fullShare X6 ∗ owns (c : Thread nD τ) arg7 fullShare X7
        ∗ owns (c : Thread nD τ) arg8 fullShare X8
        ∗ owns (c : Thread nD τ) hbE fullShare E
        ∗ (∃ d, owns (c : Thread nD τ) scE fullShare d)
        ∗ (∃ d, owns (c : Thread nD τ) scH fullShare d)
        ∗ owns (c : Thread nD τ) scL fullShare L ∗ (∃ d, owns (c : Thread nD τ) scMS fullShare d)
        ∗ semVal ((c : Thread nD τ), SemLoc.dma 11) 0
        ∗ owes (c : Thread nD τ) 0 W
        ∗ (iprop(owns (c : Thread nD τ) arg2 fullShare X2 ∗ owns (c : Thread nD τ) arg4 fullShare X4
            ∗ owns (c : Thread nD τ) arg5 fullShare X5
            ∗ owns (c : Thread nD τ) arg6 fullShare X6 ∗ owns (c : Thread nD τ) arg7 fullShare X7
            ∗ owns (c : Thread nD τ) arg8 fullShare X8
            ∗ owns (c : Thread nD τ) hbE fullShare E
            ∗ (∃ d, owns (c : Thread nD τ) scE fullShare d)
            ∗ owns (c : Thread nD τ) scH fullShare (hid X2 E X4 X5)
            ∗ owns (c : Thread nD τ) scL fullShare (newL i (hid X2 E X4 X5) X6 X7 X8 L)
            ∗ owns (c : Thread nD τ) scMS fullShare (newMS i (hid X2 E X4 X5) X6 X7 X8 ms0)
            ∗ semVal ((c : Thread nD τ), SemLoc.dma 11) 0
            ∗ (∃ W', owes (c : Thread nD τ) 0 W')) -∗ K ⟨⟩))
      ⊢ wp frame (wpE (defs₀ (F := F)) Variants.none c none) Set.univ
          (cc0__nnlm_kernel i arg2 harg2 hbE (Memref.isWhole_whole _) arg4 harg4 arg5 harg5 arg6 harg6 arg7 harg7
            arg8 harg8 arg9 harg9 scE (Memref.isWhole_whole _) scH (Memref.isWhole_whole _)
            scL (Memref.isWhole_whole _) scMS (Memref.isWhole_whole _) cc0_scratch4) K := by
  simp only [cc0__nnlm_kernel_eq_skeleton]
  unfold cc0__nnlm_kernel_skel
  simp only [k0_part1_eq_skeleton, k0_part2_eq_skeleton]
  unfold k0_part1_skel k0_part2_skel
  unfold owns
  iintro ⟨⟨%f2, %e2, H2⟩, ⟨%f4, %e4, H4⟩, ⟨%f5, %e5, H5⟩, ⟨%f6, %e6, H6⟩, ⟨%f7, %e7, H7⟩, ⟨%f8, %e8, H8⟩, ⟨%fT, %eT, HT⟩, ⟨%dE, %fE, -, HG⟩, ⟨%dH, %fH, -, HH⟩, ⟨%fL, %hL, HL⟩, ⟨%dS, %fS, -, HS⟩, Hsem, Ho, Hk⟩
  subst e2
  sl_exec (disch := first | exact chk1_of _ _ (hX2 _) | exact chk2_of _ _ (hX2 _) | exact chk3_of _ _ (hX2 _) | exact chk4_of _ _ (hX2 _))
  sl_step
  have hpay : k0_pay1 (init_run.sl.v47 c i h1 arg2 f2 fT fE hX2)
      (View.readAt (Elt F) arg4.view
        (Rect.unit (s := S4x30x100) ![0, 0, 0] ![4, 30, 100] inb_S4x30x100_S4x30x100_0_0_0).toLoadRect f4)
      (View.readAt (Elt F) arg5.view (Rect.unit (s := S1x100) ![0, 0] ![1, 100] inb_S1x100_S1x100_0_0).toLoadRect f5)
      = hid (View.read (Elt F) arg2.view f2) E X4 X5 := by
    rw [← e4, ← e5, ← eT, View.readAt_full, View.readAt_full]
    refine congrArg (fun G => k0_pay1 G (View.read (Elt F) arg4.view f4) (View.read (Elt F) arg5.view f5)) ?_
    delta init_run.sl.v47
    rw [View.readAt_full]
    funext y
    have hy : (y 0).val < 4 := (y 0).isLt
    have row : ∀ (k : Fin 4), (y 0).val = k.val →
        View.read (Elt F) hbE.view fT (ix2 ⟨(show BitVec 32 from View.read (Elt F) arg2.view f2 (ix1 k)).toNat % 100000,
          Nat.mod_lt _ (by decide)⟩ (y 1)) = gath (View.read (Elt F) arg2.view f2) (View.read (Elt F) hbE.view fT) y := by
      intro k hk
      obtain rfl : k = y 0 := Fin.ext hk.symm
      rfl
    have w0 : init_run.sl.r c arg2 f2 = View.read (Elt F) arg2.view f2 (ix1 0) :=
      congrArg (View.read (Elt F) arg2.view f2) (funext fun a => by fin_cases a; exact Fin.ext rfl)
    have w1 : init_run.sl.r_1 c arg2 f2 = View.read (Elt F) arg2.view f2 (ix1 1) :=
      congrArg (View.read (Elt F) arg2.view f2) (funext fun a => by fin_cases a; exact Fin.ext rfl)
    have w2 : init_run.sl.r_2 c arg2 f2 = View.read (Elt F) arg2.view f2 (ix1 2) :=
      congrArg (View.read (Elt F) arg2.view f2) (funext fun a => by fin_cases a; exact Fin.ext rfl)
    have w3 : init_run.sl.r_3 c arg2 f2 = View.read (Elt F) arg2.view f2 (ix1 3) :=
      congrArg (View.read (Elt F) arg2.view f2) (funext fun a => by fin_cases a; exact Fin.ext rfl)
    refine (read_rowcopy 3 _ _ _ _ _ y).trans ?_
    by_cases c3 : (y 0).val = 3
    · rw [if_pos c3, ← row 3 c3, ← w3]
      exact read_rowsrc _ (hX2 _) _ _ _ _ _
    rw [if_neg c3]
    refine (read_rowcopy 2 _ _ _ _ _ y).trans ?_
    by_cases c2 : (y 0).val = 2
    · rw [if_pos c2, ← row 2 c2, ← w2]
      exact read_rowsrc _ (hX2 _) _ _ _ _ _
    rw [if_neg c2]
    refine (read_rowcopy 1 _ _ _ _ _ y).trans ?_
    by_cases c1 : (y 0).val = 1
    · rw [if_pos c1, ← row 1 c1, ← w1]
      exact read_rowsrc _ (hX2 _) _ _ _ _ _
    rw [if_neg c1]
    refine (read_rowcopy 0 _ _ _ _ _ y).trans ?_
    have c0 : (y 0).val = 0 := by omega
    rw [if_pos c0, ← row 0 c0, ← w0]
    exact read_rowsrc _ (hX2 _) _ _ _ _ _
  have hv : init_run.sl.v11 c i h1 arg2 arg4 arg5 f2 f4 f5 fT fE hX2
      = hid (View.read (Elt F) arg2.view f2) E X4 X5 := by
    refine Eq.trans ?_ hpay
    delta init_run.sl.v11 init_run.sl.HH_1
    exact View.readCov_full _ _ _ _ _
  iapply Hk
  isplitl [H2]
  · iexists _; isplitr; swap; · iexact H2
    ipureintro; exact rfl
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [HT]
  · iexists _; isplitr; swap; · iexact HT
    ipureintro; exact eT
  isplitl [HG]
  · iexists _, _; isplitr; swap; · iexact HG
    ipureintro; rfl
  isplitl [HH]
  · iexists _; isplitr; swap; · iexact HH
    ipureintro
    delta init_run.sl.HH_1
    exact (View.read_writes_full _ _ _ _ _).trans hpay
  isplitl [HL]
  · iexists _; isplitr; swap; · iexact HL
    ipureintro
    rw [← e6, ← e7, ← e8, ← hL, View.readAt_full, View.readAt_full]
    rw [hv, read_biasL, read_biasR]
    exact read_rows i h2 _ _ _ _ _ _
  isplitl [HS]
  · iexists _; isplitr; swap; · iexact HS
    ipureintro
    rw [← e6, ← e7, ← e8, hv, View.readAt_full, View.readAt_full, read_biasL, read_biasR]
    exact read_two _ _ _ _ _
  isplitl [Hsem]; · iexact Hsem
  iexists _; iexact Ho

end Cert.KernelIdeal.Hand

end
-- ==== Proof.KernelIdeal.Pass0.lean ====
/-
  The first pass of the body: at a point of the first pass after the first point, the kernel computes the logits of one
  block from the hidden vector, stores them, and brings the running maximum and the running sum up to date.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

theorem pass0_run (c : Dev nD) (i : grid0.Coords) (h1 : ¬ k0_cond1 i = 1#1) (h2 : k0_cond2 i = 1#1)
    (h3 : ¬ k0_cond3 i = 1#1)
    (arg2 : Memref sig .tc .smem S4 .i32) (harg2 : arg2.IsWhole)
    (arg4 : Memref sig .tc .vmem S4x30x100 .f32) (harg4 : arg4.IsWhole)
    (arg5 : Memref sig .tc .vmem S1x100 .f32) (harg5 : arg5.IsWhole)
    (arg6 : Memref sig .tc .vmem S100x6400 .f32) (harg6 : arg6.IsWhole)
    (arg7 : Memref sig .tc .vmem S100x6400 .f32) (harg7 : arg7.IsWhole)
    (arg8 : Memref sig .tc .vmem S1x12800 .f32) (harg8 : arg8.IsWhole)
    (arg9 : Memref sig .tc .vmem S1x12800 .f32) (harg9 : arg9.IsWhole)
    (X6 X7 : S100x6400.Idx → Elt F .f32) (X8 : S1x12800.Idx → Elt F .f32) (H : S1x100.Idx → Elt F .f32)
    (L : S8x12800.Idx → Elt F .f32) (ms : S2.Idx → Elt F .f32) (K : PUnit → sProp 𝕄) :
    iprop(owns (c : Thread nD τ) arg6 fullShare X6 ∗ owns (c : Thread nD τ) arg7 fullShare X7
        ∗ owns (c : Thread nD τ) arg8 fullShare X8 ∗ owns (c : Thread nD τ) scH fullShare H
        ∗ owns (c : Thread nD τ) scL fullShare L ∗ owns (c : Thread nD τ) scMS fullShare ms
        ∗ (iprop(owns (c : Thread nD τ) arg6 fullShare X6 ∗ owns (c : Thread nD τ) arg7 fullShare X7
            ∗ owns (c : Thread nD τ) arg8 fullShare X8 ∗ owns (c : Thread nD τ) scH fullShare H
            ∗ owns (c : Thread nD τ) scL fullShare (newL i H X6 X7 X8 L)
            ∗ owns (c : Thread nD τ) scMS fullShare (newMS i H X6 X7 X8 ms)) -∗ K ⟨⟩))
      ⊢ wp frame (wpE (defs₀ (F := F)) Variants.none c none) Set.univ
          (cc0__nnlm_kernel i arg2 harg2 hbE (Memref.isWhole_whole _) arg4 harg4 arg5 harg5 arg6 harg6 arg7 harg7
            arg8 harg8 arg9 harg9 scE (Memref.isWhole_whole _) scH (Memref.isWhole_whole _)
            scL (Memref.isWhole_whole _) scMS (Memref.isWhole_whole _) cc0_scratch4) K := by
  simp only [cc0__nnlm_kernel_eq_skeleton]
  unfold cc0__nnlm_kernel_skel
  simp only [k0_part2_eq_skeleton]
  unfold k0_part2_skel
  unfold owns
  iintro ⟨⟨%f6, %h6, H6⟩, ⟨%f7, %h7, H7⟩, ⟨%f8, %h8, H8⟩, ⟨%fH, %hH, HH⟩, ⟨%fL, %hL, HL⟩, ⟨%fS, %hS, HS⟩, Hk⟩
  sl_exec
  sl_step
  iapply Hk
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [HH]
  · iexists _; isplitr; swap; · iexact HH
    ipureintro; exact hH
  isplitl [HL]
  · iexists _; isplitr; swap; · iexact HL
    ipureintro
    subst h6 h7 h8 hH hL
    rw [View.readAt_full, View.readAt_full, View.readAt_full, read_biasL, read_biasR]
    exact read_rows i h2 _ _ _ _ _ _
  iexists _; isplitr; swap; · iexact HS
  ipureintro
  subst h6 h7 h8 hH hS
  rw [View.readAt_full, View.readAt_full, View.readAt_full, read_biasL, read_biasR]
  have e0 : pass0_run.sl.r c fS = View.read (Elt F) scMS.view fS (ix1 0) :=
    congrArg (View.read (Elt F) scMS.view fS) (funext fun a => by fin_cases a; exact Fin.ext rfl)
  have e1 : pass0_run.sl.r_1 c fS = View.read (Elt F) scMS.view fS (ix1 1) :=
    congrArg (View.read (Elt F) scMS.view fS) (funext fun a => by fin_cases a; exact Fin.ext rfl)
  rw [e0, e1]
  exact read_two _ _ _ _ _

end Cert.KernelIdeal.Hand

end
-- ==== Proof.KernelIdeal.Pass1.lean ====
/-
  The second pass of the body: at a point of the second pass the kernel subtracts from one row of the logits
  the running maximum plus the logarithm of the running sum.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

theorem pass1_run (c : Dev nD) (i : grid0.Coords) (h1 : ¬ k0_cond1 i = 1#1) (h2 : ¬ k0_cond2 i = 1#1)
    (h3 : k0_cond3 i = 1#1)
    (arg2 : Memref sig .tc .smem S4 .i32) (harg2 : arg2.IsWhole)
    (arg4 : Memref sig .tc .vmem S4x30x100 .f32) (harg4 : arg4.IsWhole)
    (arg5 : Memref sig .tc .vmem S1x100 .f32) (harg5 : arg5.IsWhole)
    (arg6 : Memref sig .tc .vmem S100x6400 .f32) (harg6 : arg6.IsWhole)
    (arg7 : Memref sig .tc .vmem S100x6400 .f32) (harg7 : arg7.IsWhole)
    (arg8 : Memref sig .tc .vmem S1x12800 .f32) (harg8 : arg8.IsWhole)
    (arg9 : Memref sig .tc .vmem S1x12800 .f32) (harg9 : arg9.IsWhole)
    (L : S8x12800.Idx → Elt F .f32) (ms : S2.Idx → Elt F .f32) (K : PUnit → sProp 𝕄) :
    iprop((∃ d, owns (c : Thread nD τ) arg9 fullShare d)
        ∗ owns (c : Thread nD τ) scL fullShare L ∗ owns (c : Thread nD τ) scMS fullShare ms
        ∗ (iprop(owns (c : Thread nD τ) arg9 fullShare
                (k0_pay5 (ms (ix1 0)) (ms (ix1 1)) fun y => L (ix2 (i 1) (y 1)))
            ∗ owns (c : Thread nD τ) scL fullShare L ∗ owns (c : Thread nD τ) scMS fullShare ms) -∗ K ⟨⟩))
      ⊢ wp frame (wpE (defs₀ (F := F)) Variants.none c none) Set.univ
          (cc0__nnlm_kernel i arg2 harg2 hbE (Memref.isWhole_whole _) arg4 harg4 arg5 harg5 arg6 harg6 arg7 harg7
            arg8 harg8 arg9 harg9 scE (Memref.isWhole_whole _) scH (Memref.isWhole_whole _)
            scL (Memref.isWhole_whole _) scMS (Memref.isWhole_whole _) cc0_scratch4) K := by
  simp only [cc0__nnlm_kernel_eq_skeleton]
  unfold cc0__nnlm_kernel_skel
  unfold owns
  iintro ⟨⟨%d9, %f9, -, H9⟩, ⟨%fL, %hL, HL⟩, ⟨%fS, %hS, HS⟩, Hk⟩
  sl_exec
  sl_step
  iapply Hk
  isplitl [H9]
  · iexists _; isplitr; swap; · iexact H9
    ipureintro
    subst hL hS
    rw [View.read_writes_full, View.readAt_unit _ _ _ (off7_eq i) (fun a => by rw [← off7_eq i]; exact k0_off7_inb i h3 a)]
    congr 1
    · exact congrArg (View.read (Elt F) scMS.view fS) (funext fun a => by fin_cases a; exact Fin.ext rfl)
    · exact congrArg (View.read (Elt F) scMS.view fS) (funext fun a => by fin_cases a; exact Fin.ext rfl)
    · funext y
      exact congrArg (View.read (Elt F) scL.view fL) (funext fun a => by
        fin_cases a
        · refine Fin.ext ?_
          show (i 1).val + 1 * (y 0).val = (i 1).val
          have : (y 0).val < 1 := (y 0).isLt
          omega
        · refine Fin.ext ?_
          show 0 + 1 * (y 1).val = (y 1).val
          omega)
  isplitl [HL]
  · iexists _; isplitr; swap; · iexact HL
    ipureintro; exact hL
  iexists _; isplitr; swap; · iexact HS
  ipureintro; exact hS

end Cert.KernelIdeal.Hand

end
-- ==== Proof.KernelIdeal.Walk.lean ====
/-
  The walk over the grid: what every point of the grid does to the buffers, for any description of what the scratch
  buffers hold that the points' own computations keep (`Keeps`).
-/
module

public import proofs.«01_k».proof.Proof.Gen.KernelIdeal.Frame
public import proofs.«01_k».proof.Proof.KernelIdeal.Init
public import proofs.«01_k».proof.Proof.KernelIdeal.Pass0
public import proofs.«01_k».proof.Proof.KernelIdeal.Pass1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligationLoose)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The points -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 8 ≤ t.val := by decide +kernel
theorem coords_one : ∀ t : Fin grid0.N, (grid0.coords t 1).val = t.val % 8 := by decide +kernel
theorem flush6 : ∀ t : Fin cfg0.N, (cfg0.win 6).flush t = decide (8 ≤ t.val) := by decide +kernel
theorem idle6 (t : Fin cfg0.N) : cfg0.idle 6 (cfg0.grid.coords t) = decide (t.val < 8) := by
  revert t; decide +kernel

/-! ## The host's part, and what the kernel's own transfer needs -/

/-- The program up to the kernel. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The semaphore of the row copies. -/
abbrev osem0 : Fin 1 → SemLoc sig := fun _ => SemLoc.dma 11
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
/-- The table the row copies read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (((c : Thread nD τ).loc main_arg1) ↦{fullShare} V m c main_arg1) := by
  rw [BI.bigSep_eq_bigSepL_of_eq [main_arg1] (by decide) (by decide)]; rfl
/-- What the kernel owns between points, the scratch buffers at contents nothing names. -/
theorem PhiD_eq (c : Dev nD) :
    (Pipeline.ΦD osem0 spec0 H0 (V m) c : sProp 𝕄)
      = iprop(iprop((∃ d, owns (c : Thread nD τ) scE fullShare d) ∗ (∃ d, owns (c : Thread nD τ) scH fullShare d)
                ∗ (∃ d, owns (c : Thread nD τ) scL fullShare d) ∗ (∃ d, owns (c : Thread nD τ) scMS fullShare d))
          ∗ (∃ r, prngReg c r)
          ∗ semVal ((c : Thread nD τ), SemLoc.dma 11) 0
          ∗ owns (c : Thread nD τ) hbE fullShare (V m c main_arg1)) := by
  rw [Pipeline.ΦD_eq, scopedRest0_eq, ownSems00_eq, hbmPts0_eq]
  simp only [scE, scH, scL, scMS, hbE, owns_whole]; try rfl

/-! ## The blocks the points find -/

/-- A filler for the part of a buffer no fetch fills. -/
def filler {s : Shape} {e : EltTy} : s.Idx → Elt F e := fun _ => Classical.choice inferInstance

/-- What the buffers of the two weight windows and of the bias window hold at a point, over `d`. -/
def X3 (c : Dev nD) (t : Fin cfg0.N) (d : S100x6400.Idx → Elt F .f32) : S100x6400.Idx → Elt F .f32 :=
  win0_3.fill (grid0.coords t) d (iblk m c 3 t)
def X4 (c : Dev nD) (t : Fin cfg0.N) (d : S100x6400.Idx → Elt F .f32) : S100x6400.Idx → Elt F .f32 :=
  win0_4.fill (grid0.coords t) d (iblk m c 4 t)
def X5 (c : Dev nD) (t : Fin cfg0.N) (d : S1x12800.Idx → Elt F .f32) : S1x12800.Idx → Elt F .f32 :=
  win0_5.fill (grid0.coords t) d (iblk m c 5 t)

/-- The hidden vector. -/
def hidV (c : Dev nD) : S1x100.Idx → Elt F .f32 :=
  hid (iblk m c 0 t0_0) (V m c main_arg1) (iblk m c 1 t0_0) (iblk m c 2 t0_0)

/-- A description of the scratch buffers (hidden vector, logits, running maximum and sum) before each point, kept by
    the points. -/
structure Keeps (c : Dev nD)
    (Inv : ℕ → (S1x100.Idx → Elt F .f32) → (S8x12800.Idx → Elt F .f32) → (S2.Idx → Elt F .f32) → Prop) : Prop where
  start : ∀ H L S, Inv 0 H L S
  init : ∀ L d3 d4 d5, Inv 1 (hidV m c)
    (newL (grid0.coords t0_0) (hidV m c) (X3 m c t0_0 d3) (X4 m c t0_0 d4) (X5 m c t0_0 d5) L)
    (newMS (grid0.coords t0_0) (hidV m c) (X3 m c t0_0 d3) (X4 m c t0_0 d4) (X5 m c t0_0 d5) ms0)
  pass0 : ∀ (t : Fin cfg0.N) (H L S) (d3 d4 d5), 0 < t.val → t.val < 8 → Inv t.val H L S → Inv (t.val + 1) H
    (newL (grid0.coords t) H (X3 m c t d3) (X4 m c t d4) (X5 m c t d5) L)
    (newMS (grid0.coords t) H (X3 m c t d3) (X4 m c t d4) (X5 m c t d5) S)
  pass1 : ∀ (t : Fin cfg0.N) (H L S), 8 ≤ t.val → Inv t.val H L S → Inv (t.val + 1) H L S

/-- The row of the result a point of the second pass writes. -/
def outRow (t : Fin cfg0.N) (L : S8x12800.Idx → Elt F .f32) (S : S2.Idx → Elt F .f32) : S1x12800.Idx → Elt F .f32 :=
  k0_pay5 (S (ix1 0)) (S (ix1 1)) fun y => L (ix2 (grid0.coords t 1) (y 1))

variable (Inv : Dev nD → ℕ → (S1x100.Idx → Elt F .f32) → (S8x12800.Idx → Elt F .f32) → (S2.Idx → Elt F .f32) → Prop)
  (out : (c : Dev nD) → Fin cfg0.N → S1x12800.Idx → Elt F .f32)

/-- What the kernel owns between points. -/
def Phi (c : Dev nD) (p : ℕ) : sProp 𝕄 :=
  iprop(iprop((∃ d, owns (c : Thread nD τ) scE fullShare d)
      ∗ (∃ H, ∃ L, ∃ S, iprop(⌜Inv c p H L S⌝) ∗ owns (c : Thread nD τ) scH fullShare H ∗ owns (c : Thread nD τ) scL fullShare L
          ∗ owns (c : Thread nD τ) scMS fullShare S))
    ∗ (∃ r, prngReg c r)
    ∗ semVal ((c : Thread nD τ), SemLoc.dma 11) 0
    ∗ owns (c : Thread nD τ) hbE fullShare (V m c main_arg1))

/-- The proof data of the walk. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => X3 m c t filler
    | 4 => X4 m c t filler
    | 5 => X5 m c t filler
    | 6 => out c t
  Φ p := Phi m Inv c p.val
  q w := Pipeline.shareOf spec0 w
  owed _ := 0

/-! ## What the body finds -/

theorem found0 (c : Dev nD) (t : Fin cfg0.N) (d) : (dats m Inv out 0 c).before 0 t d = iblk m c 0 t :=
  ((dats m Inv out 0 c).before_in_eq_fetched 0 rfl (fun _ => rfl) (fun _ _ _ => rfl) (fun t => rfl) t d).trans rfl
theorem found1 (c : Dev nD) (t : Fin cfg0.N) (d) : (dats m Inv out 0 c).before 1 t d = iblk m c 1 t :=
  ((dats m Inv out 0 c).before_in_eq_fetched 1 rfl (fun _ => rfl) (fun _ _ _ => rfl) (fun t => rfl) t d).trans rfl
theorem found2 (c : Dev nD) (t : Fin cfg0.N) (d) : (dats m Inv out 0 c).before 2 t d = iblk m c 2 t :=
  ((dats m Inv out 0 c).before_in_eq_fetched 2 rfl (fun _ => rfl) (fun _ _ _ => rfl) (fun t => rfl) t d).trans rfl
theorem found3 (c : Dev nD) (t : Fin cfg0.N) (d) : (dats m Inv out 0 c).before 3 t d = X3 m c t d :=
  ((dats m Inv out 0 c).before_in_eq_fetched 3 rfl (fun _ => rfl)
    (fun t t' h => funext fun a => congrArg (fun n => Pipeline.Clip.of n ((cfg0.win 3).size a) (S100x100000.size a)) (congrFun h a))
    (fun t => win0_3.cut_fill _ _ _) t d).trans rfl
theorem found4 (c : Dev nD) (t : Fin cfg0.N) (d) : (dats m Inv out 0 c).before 4 t d = X4 m c t d :=
  ((dats m Inv out 0 c).before_in_eq_fetched 4 rfl (fun _ => rfl)
    (fun t t' h => funext fun a => congrArg (fun n => Pipeline.Clip.of n ((cfg0.win 4).size a) (S100x100000.size a)) (congrFun h a))
    (fun t => win0_4.cut_fill _ _ _) t d).trans rfl
theorem found5 (c : Dev nD) (t : Fin cfg0.N) (d) : (dats m Inv out 0 c).before 5 t d = X5 m c t d :=
  ((dats m Inv out 0 c).before_in_eq_fetched 5 rfl (fun _ => rfl)
    (fun t t' h => funext fun a => congrArg (fun n => Pipeline.Clip.of n ((cfg0.win 5).size a) (S1x100000.size a)) (congrFun h a))
    (fun t => win0_5.cut_fill _ _ _) t d).trans rfl

/-! ## The three kinds of points -/

/-- The six buffers the body reads, at a point. -/
def ins (c : Dev nD) (t : Fin cfg0.N) (d3 d4 : S100x6400.Idx → Elt F .f32) (d5 : S1x12800.Idx → Elt F .f32) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (X3 m c t d3)
    ∗ owns (c : Thread nD τ) (win0_4.stage (cfg0.slots t 4)) fullShare (X4 m c t d4)
    ∗ owns (c : Thread nD τ) (win0_5.stage (cfg0.slots t 5)) fullShare (X5 m c t d5))

/-- Nothing is owed to another core: any record of what was waited for is the invariant's. -/
abbrev owes0 (c : Dev nD) (p : Fin (cfg0.N + 1)) : sProp 𝕄 := (dats m Inv out 0 c).owesAt () p

variable {Inv}

theorem rowsOk_of (c : Dev nD) (hrow : ∀ y, (show BitVec 32 from V m c main_arg0 y).toNat < 100000) (t : Fin cfg0.N) :
    RowsOk (F := F) (iblk m c 0 t) := fun y => hrow _

/-- The first point. -/
theorem point_init (c : Dev nD) (hk : Keeps m c (Inv c))
    (hrow : ∀ y, (show BitVec 32 from V m c main_arg0 y).toNat < 100000) (d3 d4 d5) (K : PUnit → sProp 𝕄) :
    iprop(Phi m Inv c 0 ∗ owes0 m Inv out c (t0_0 : Fin cfg0.N).castSucc ∗ ins m c t0_0 d3 d4 d5
        ∗ (iprop(Phi m Inv c 1 ∗ owes0 m Inv out c (t0_0 : Fin cfg0.N).succ ∗ ins m c t0_0 d3 d4 d5) -∗ K ⟨⟩))
      ⊢ wp frame (wpE (defs₀ (F := F)) Variants.none c none) Set.univ (bodyAt0 t0_0) K := by
  unfold bodyAt0 Phi ins owes0 Dat.owesAt Pipeline.owesWithin
  rw [show (dats m Inv out 0 c).owed (t0_0 : Fin cfg0.N).castSucc = 0 from rfl,
    show (dats m Inv out 0 c).owed (t0_0 : Fin cfg0.N).succ = 0 from rfl]
  iintro ⟨⟨⟨HE, ⟨%H, %L, %S, -, HH, HL, HS⟩⟩, Hg, Hq, HT⟩, ⟨%W, -, HW⟩, ⟨H0, H1, H2, H3, H4, H5⟩, Hk⟩
  iapply (init_run c (grid0.coords t0_0) ((cond1_iff t0_0).mpr rfl) ((cond2_iff t0_0).mpr (by decide))
    (fun h => absurd ((cond3_iff t0_0).mp h) (by decide)) _ _ _ _ _ _ _ _ _ _ _ _ _ _
    (iblk m c 0 t0_0) (rowsOk_of m c hrow t0_0) (iblk m c 1 t0_0) (iblk m c 2 t0_0)
    (X3 m c t0_0 d3) (X4 m c t0_0 d4) (X5 m c t0_0 d5) (V m c main_arg1) L W _)
  isplitl [H0]; · iexact H0
  isplitl [H1]; · iexact H1
  isplitl [H2]; · iexact H2
  isplitl [H3]; · iexact H3
  isplitl [H4]; · iexact H4
  isplitl [H5]; · iexact H5
  isplitl [HT]; · iexact HT
  isplitl [HE]; · iexact HE
  isplitl [HH]; · iexists _; iexact HH
  isplitl [HL]; · iexact HL
  isplitl [HS]; · iexists _; iexact HS
  isplitl [Hq]; · iexact Hq
  isplitl [HW]; · iexact HW
  iintro ⟨H0, H1, H2, H3, H4, H5, HT, HE, HH, HL, HS, Hq, ⟨%W', HW'⟩⟩
  iapply Hk
  isplitl [HE HH HL HS Hg Hq HT]
  · isplitl [HE HH HL HS]
    · isplitl [HE]; · iexact HE
      iexists _, _, _
      isplitr; swap
      · isplitl [HH]; · iexact HH
        isplitl [HL]; · iexact HL
        iexact HS
      ipureintro
      exact hk.init L d3 d4 d5
    isplitl [Hg]; · iexact Hg
    isplitl [Hq]; · iexact Hq
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- A later point of the first pass. -/
theorem point_pass0 (c : Dev nD) (hk : Keeps m c (Inv c)) (t : Fin cfg0.N) (h0 : 0 < t.val) (h8 : t.val < 8) (d3 d4 d5)
    (K : PUnit → sProp 𝕄) :
    iprop(Phi m Inv c t.val ∗ owes0 m Inv out c t.castSucc ∗ ins m c t d3 d4 d5
        ∗ (iprop(Phi m Inv c (t.val + 1) ∗ owes0 m Inv out c t.succ ∗ ins m c t d3 d4 d5) -∗ K ⟨⟩))
      ⊢ wp frame (wpE (defs₀ (F := F)) Variants.none c none) Set.univ (bodyAt0 t) K := by
  unfold bodyAt0 Phi ins owes0 Dat.owesAt
  rw [show (dats m Inv out 0 c).owed t.castSucc = 0 from rfl,
    show (dats m Inv out 0 c).owed t.succ = 0 from rfl]
  iintro ⟨⟨⟨HE, ⟨%H, %L, %S, %hI, HH, HL, HS⟩⟩, Hg, Hq, HT⟩, HW, ⟨H0, H1, H2, H3, H4, H5⟩, Hk⟩
  iapply (pass0_run c (grid0.coords t) (fun h => absurd ((cond1_iff t).mp h) (by omega)) ((cond2_iff t).mpr h8)
    (fun h => absurd ((cond3_iff t).mp h) (by omega)) _ _ _ _ _ _ _ _ _ _ _ _ _ _
    (X3 m c t d3) (X4 m c t d4) (X5 m c t d5) H L S _)
  isplitl [H3]; · iexact H3
  isplitl [H4]; · iexact H4
  isplitl [H5]; · iexact H5
  isplitl [HH]; · iexact HH
  isplitl [HL]; · iexact HL
  isplitl [HS]; · iexact HS
  iintro ⟨H3, H4, H5, HH, HL, HS⟩
  iapply Hk
  isplitl [HE HH HL HS Hg Hq HT]
  · isplitl [HE HH HL HS]
    · isplitl [HE]; · iexact HE
      iexists _, _, _
      isplitr; swap
      · isplitl [HH]; · iexact HH
        isplitl [HL]; · iexact HL
        iexact HS
      ipureintro
      exact hk.pass0 t H L S d3 d4 d5 h0 h8 hI
    isplitl [Hg]; · iexact Hg
    isplitl [Hq]; · iexact Hq
    iexact HT
  isplitl [HW]; · iexact HW
  isplitl [H0]; · iexact H0
  isplitl [H1]; · iexact H1
  isplitl [H2]; · iexact H2
  isplitl [H3]; · iexact H3
  isplitl [H4]; · iexact H4
  iexact H5

/-- A point of the second pass. -/
theorem point_pass1 (c : Dev nD) (hk : Keeps m c (Inv c)) (t : Fin cfg0.N) (h8 : 8 ≤ t.val) (d3 d4 d5)
    (K : PUnit → sProp 𝕄) :
    iprop(Phi m Inv c t.val ∗ owes0 m Inv out c t.castSucc ∗ ins m c t d3 d4 d5
        ∗ (∃ X, owns (c : Thread nD τ) (win0_6.stage (cfg0.slots t 6)) fullShare X)
        ∗ (∀ H, ∀ L, ∀ S, iprop(⌜Inv c t.val H L S⌝ ∗ Phi m Inv c (t.val + 1) ∗ owes0 m Inv out c t.succ ∗ ins m c t d3 d4 d5
          ∗ owns (c : Thread nD τ) (win0_6.stage (cfg0.slots t 6)) fullShare (outRow t L S)) -∗ K ⟨⟩))
      ⊢ wp frame (wpE (defs₀ (F := F)) Variants.none c none) Set.univ (bodyAt0 t) K := by
  unfold bodyAt0 Phi ins owes0 Dat.owesAt
  rw [show (dats m Inv out 0 c).owed t.castSucc = 0 from rfl,
    show (dats m Inv out 0 c).owed t.succ = 0 from rfl]
  iintro ⟨⟨⟨HE, ⟨%H, %L, %S, %hI, HH, HL, HS⟩⟩, Hg, Hq, HT⟩, HW, ⟨H0, H1, H2, H3, H4, H5⟩, H6, Hk⟩
  iapply (pass1_run c (grid0.coords t) (fun h => absurd ((cond1_iff t).mp h) (by omega))
    (fun h => absurd ((cond2_iff t).mp h) (by omega)) ((cond3_iff t).mpr h8) _ _ _ _ _ _ _ _ _ _ _ _ _ _ L S _)
  isplitl [H6]; · iexact H6
  isplitl [HL]; · iexact HL
  isplitl [HS]; · iexact HS
  iintro ⟨H6, HL, HS⟩
  iapply Hk
  isplitr; · ipureintro; exact hI
  isplitl [HE HH HL HS Hg Hq HT]
  · isplitl [HE HH HL HS]
    · isplitl [HE]; · iexact HE
      iexists _, _, _
      isplitr; swap
      · isplitl [HH]; · iexact HH
        isplitl [HL]; · iexact HL
        iexact HS
      ipureintro
      exact hk.pass1 t H L S h8 hI
    isplitl [Hg]; · iexact Hg
    isplitl [Hq]; · iexact Hq
    iexact HT
  isplitl [HW]; · iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iexact H6

end Cert.KernelIdeal.Hand

end
-- ==== Proof.KernelIdeal.Quiet.lean ====
/-
  The frame: every run of the kernel from words that name rows of the table ends, with the arguments as they were and
  every semaphore at zero. Nothing is said of what the scratch buffers and the result hold.
-/
module

public import proofs.«01_k».proof.Proof.KernelIdeal.Walk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligationLoose RDat)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The body of the loop at a point is the kernel at the point's buffers. -/
theorem defs₀_row (t : Fin cfg0.N) :
    defs₀ (F := F) .tc cfg0.body (cfg0.bodyArgs t (cfg0.slots t)) = bodyAt0 t := by
  unfold defs₀; rw [Defs.onTc_tc]

variable {Inv : Dev nD → ℕ → (S1x100.Idx → Elt F .f32) → (S8x12800.Idx → Elt F .f32) → (S2.Idx → Elt F .f32) → Prop}
  (out : (c : Dev nD) → Fin cfg0.N → S1x12800.Idx → Elt F .f32)

/-- The invariant, what is owed and the six windows the body reads, as the loop hands them over, beside `P`. -/
def given (c : Dev nD) (t : Fin cfg0.N) (P : sProp 𝕄) : sProp 𝕄 :=
  iprop((dats m Inv out 0 c).Φ t.castSucc ∗ (dats m Inv out 0 c).owesAt () t.castSucc
    ∗ (∃ d, owns (c : Thread nD τ) (win0_0.stage (cfg0.slots t 0)) fullShare ((dats m Inv out 0 c).before 0 t d))
    ∗ (∃ d, owns (c : Thread nD τ) (win0_1.stage (cfg0.slots t 1)) fullShare ((dats m Inv out 0 c).before 1 t d))
    ∗ (∃ d, owns (c : Thread nD τ) (win0_2.stage (cfg0.slots t 2)) fullShare ((dats m Inv out 0 c).before 2 t d))
    ∗ (∃ d, owns (c : Thread nD τ) (win0_3.stage (cfg0.slots t 3)) fullShare ((dats m Inv out 0 c).before 3 t d))
    ∗ (∃ d, owns (c : Thread nD τ) (win0_4.stage (cfg0.slots t 4)) fullShare ((dats m Inv out 0 c).before 4 t d))
    ∗ (∃ d, owns (c : Thread nD τ) (win0_5.stage (cfg0.slots t 5)) fullShare ((dats m Inv out 0 c).before 5 t d))
    ∗ P)

/-- The same as the loop wants them back. -/
def back (c : Dev nD) (t : Fin cfg0.N) (P : sProp 𝕄) : sProp 𝕄 :=
  iprop((dats m Inv out 0 c).Φ t.succ ∗ (dats m Inv out 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ (∃ d, owns (c : Thread nD τ) (win0_3.stage (cfg0.slots t 3)) fullShare
        (win0_3.fill (grid0.coords t) d (win0_3.cut (grid0.coords t) (X3 m c t filler))))
    ∗ (∃ d, owns (c : Thread nD τ) (win0_4.stage (cfg0.slots t 4)) fullShare
        (win0_4.fill (grid0.coords t) d (win0_4.cut (grid0.coords t) (X4 m c t filler))))
    ∗ (∃ d, owns (c : Thread nD τ) (win0_5.stage (cfg0.slots t 5)) fullShare
        (win0_5.fill (grid0.coords t) d (win0_5.cut (grid0.coords t) (X5 m c t filler))))
    ∗ P)

theorem given_elim (c : Dev nD) (t : Fin cfg0.N) (P : sProp 𝕄) : given m (Inv := Inv) out c t P
    ⊢ iprop(∃ d3, ∃ d4, ∃ d5, Phi m Inv c t.val ∗ owes0 m Inv out c t.castSucc ∗ ins m c t d3 d4 d5 ∗ P) := by
  unfold given ins
  rw [show (dats m Inv out 0 c).Φ t.castSucc = Phi m Inv c t.val from rfl]
  iintro ⟨HP, HW, ⟨%d0, H0⟩, ⟨%d1, H1⟩, ⟨%d2, H2⟩, ⟨%d3, H3⟩, ⟨%d4, H4⟩, ⟨%d5, H5⟩, H6⟩
  rw [found0 m Inv out c t d0, found1 m Inv out c t d1, found2 m Inv out c t d2, found3 m Inv out c t d3,
    found4 m Inv out c t d4, found5 m Inv out c t d5]
  iexists d3, d4, d5
  isplitl [HP]; · iexact HP
  isplitl [HW]; · iexact HW
  isplitr [H6]
  · isplitl [H0]; · iexact H0
    isplitl [H1]; · iexact H1
    isplitl [H2]; · iexact H2
    isplitl [H3]; · iexact H3
    isplitl [H4]; · iexact H4
    iexact H5
  iexact H6

theorem back_intro (c : Dev nD) (t : Fin cfg0.N) (d3 d4 d5) (P : sProp 𝕄) :
    iprop(Phi m Inv c (t.val + 1) ∗ owes0 m Inv out c t.succ ∗ ins m c t d3 d4 d5 ∗ P) ⊢ back m (Inv := Inv) out c t P := by
  unfold ins back
  rw [show (dats m Inv out 0 c).Φ t.succ = Phi m Inv c (t.val + 1) from rfl]
  rw [show win0_3.cut (grid0.coords t) (X3 m c t filler) = iblk m c 3 t from win0_3.cut_fill _ _ _,
    show win0_4.cut (grid0.coords t) (X4 m c t filler) = iblk m c 4 t from win0_4.cut_fill _ _ _,
    show win0_5.cut (grid0.coords t) (X5 m c t filler) = iblk m c 5 t from win0_5.cut_fill _ _ _]
  iintro ⟨HP, HW, ⟨H0, H1, H2, H3, H4, H5⟩, H6⟩
  isplitl [HP]; · iexact HP
  isplitl [HW]; · iexact HW
  isplitl [H0]; · iexact H0
  isplitl [H1]; · iexact H1
  isplitl [H2]; · iexact H2
  isplitl [H3]; · iexists d3; iexact H3
  isplitl [H4]; · iexists d4; iexact H4
  isplitl [H5]; · iexists d5; iexact H5
  iexact H6

/-- The seventh window forgotten. -/
def fgt6 : Fin cfg0.W → Bool := fun w => match w with
  | 6 => true
  | 0 => false
  | 1 => false
  | 2 => false
  | 3 => false
  | 4 => false
  | 5 => false

theorem quiet_point (c : Dev nD) (hk : Keeps m c (Inv c))
    (hrow : ∀ y, (show BitVec 32 from V m c main_arg0 y).toNat < 100000) (t : Fin cfg0.N) (d3 d4 d5) :
    iprop(Phi m Inv c t.val ∗ owes0 m Inv out c t.castSucc ∗ ins m c t d3 d4 d5
        ∗ (∃ X, owns (c : Thread nD τ) (win0_6.stage (cfg0.slots t 6)) fullShare X))
      ⊢ wp frame (wpE (defs₀ (F := F)) Variants.none c none) Set.univ (bodyAt0 t) fun _ =>
        iprop(Phi m Inv c (t.val + 1) ∗ owes0 m Inv out c t.succ ∗ ins m c t d3 d4 d5
        ∗ (∃ X, owns (c : Thread nD τ) (win0_6.stage (cfg0.slots t 6)) fullShare X)) := by
  by_cases h8 : t.val < 8
  · by_cases h0 : t.val = 0
    · obtain rfl : t = t0_0 := Fin.ext h0
      iintro ⟨HP, HW, HI, H6⟩
      iapply (point_init m out c hk hrow d3 d4 d5 _)
      isplitl [HP]; · iexact HP
      isplitl [HW]; · iexact HW
      isplitl [HI]; · iexact HI
      iintro ⟨HP, HW, HI⟩
      isplitl [HP]; · iexact HP
      isplitl [HW]; · iexact HW
      isplitl [HI]; · iexact HI
      iexact H6
    · iintro ⟨HP, HW, HI, H6⟩
      iapply (point_pass0 m out c hk t (by omega) h8 d3 d4 d5 _)
      isplitl [HP]; · iexact HP
      isplitl [HW]; · iexact HW
      isplitl [HI]; · iexact HI
      iintro ⟨HP, HW, HI⟩
      isplitl [HP]; · iexact HP
      isplitl [HW]; · iexact HW
      isplitl [HI]; · iexact HI
      iexact H6
  · iintro ⟨HP, HW, HI, H6⟩
    iapply (point_pass1 m out c hk t (by omega) d3 d4 d5 _)
    isplitl [HP]; · iexact HP
    isplitl [HW]; · iexact HW
    isplitl [HI]; · iexact HI
    isplitl [H6]; · iexact H6
    iintro %H %L %S ⟨-, HP, HW, HI, H6⟩
    isplitl [HP]; · iexact HP
    isplitl [HW]; · iexact HW
    isplitl [HI]; · iexact HI
    iexists _; iexact H6

theorem quiet_sound (c : Dev nD) (hk : Keeps m c (Inv c))
    (hrow : ∀ y, (show BitVec 32 from V m c main_arg0 y).toNat < 100000) (t : Fin cfg0.N) :
    given m (Inv := Inv) out c t iprop(∃ X, owns (c : Thread nD τ) (win0_6.stage (cfg0.slots t 6)) fullShare X)
      ⊢ wp frame (wpE (defs₀ (F := F)) Variants.none c none) Set.univ (bodyAt0 t) fun _ =>
        back m (Inv := Inv) out c t iprop(∃ X, owns (c : Thread nD τ) (win0_6.stage (cfg0.slots t 6)) fullShare X) := by
  refine (given_elim m out c t _).trans ?_
  iintro ⟨%d3, %d4, %d5, H⟩
  iapply ((quiet_point m out c hk hrow t d3 d4 d5).trans (wp_mono _ _ _ fun _ => back_intro m out c t d3 d4 d5 _))
  iexact H

theorem quiet_obligation (c : Dev nD) (hk : Keeps m c (Inv c))
    (hrow : ∀ y, (show BitVec 32 from V m c main_arg0 y).toNat < 100000) :
    BodyObligationLoose (dats m Inv out 0 c) (defs₀ (F := F)) Variants.none () Set.univ fgt6 := fun t => by
  rw [bigSep_W0, bigSep_W0, defs₀_row]
  exact triple_restated (quiet_sound m out c hk hrow t) rfl .rfl fun _ => .rfl

/-! ## The launch -/

theorem Phi_in (c : Dev nD) (hk : Keeps m c (Inv c)) :
    (Pipeline.ΦD osem0 spec0 H0 (V m) c : sProp 𝕄) ⊢ Phi m Inv c 0 := by
  rw [PhiD_eq]
  unfold Phi
  iintro ⟨⟨HE, ⟨%H, HH⟩, ⟨%L, HL⟩, ⟨%S, HS⟩⟩, Hg, Hq, HT⟩
  isplitl [HE HH HL HS]
  · isplitl [HE]; · iexact HE
    iexists H, L, S
    isplitr; · ipureintro; exact hk.start H L S
    isplitl [HH]; · iexact HH
    isplitl [HL]; · iexact HL
    iexact HS
  isplitl [Hg]; · iexact Hg
  isplitl [Hq]; · iexact Hq
  iexact HT

theorem Phi_out (c : Dev nD) (p : ℕ) : Phi m Inv c p ⊢ (Pipeline.ΦD osem0 spec0 H0 (V m) c : sProp 𝕄) := by
  rw [PhiD_eq]
  unfold Phi
  iintro ⟨⟨HE, ⟨%H, %L, %S, -, HH, HL, HS⟩⟩, Hg, Hq, HT⟩
  isplitl [HE HH HL HS]
  · isplitl [HE]; · iexact HE
    isplitl [HH]; · iexists H; iexact HH
    isplitl [HL]; · iexists L; iexact HL
    iexists S; iexact HS
  isplitl [Hg]; · iexact Hg
  isplitl [Hq]; · iexact Hq
  iexact HT

/-- The description that says nothing. -/
def noInv : Dev nD → ℕ → (S1x100.Idx → Elt F .f32) → (S8x12800.Idx → Elt F .f32) → (S2.Idx → Elt F .f32) → Prop :=
  fun _ _ _ _ _ => True

theorem noInv_keeps (c : Dev nD) : Keeps m c (noInv (F := F) c) :=
  ⟨fun _ _ _ => trivial, fun _ _ _ _ => trivial, fun _ _ _ _ _ _ _ _ _ _ => trivial, fun _ _ _ _ _ _ => trivial⟩

/-- An array the kernel only reads is as it was. -/
theorem kept_of (c : Dev nD) (w : Fin cfg0.W) (hw : (cfg0.win w).isOut = false) (A)
    (h : ((dats m noInv (fun _ _ => filler) 0 c).toRForget fgt6).ArrAt w cfg0.N A) : A = V m c (Pipeline.arrRef spec0 w) := by
  rw [RDat.ArrAt_in _ w hw] at h
  exact h

set_option backward.isDefEq.respectTransparency.types false in
/-- Every run ends, the arguments as they were and every semaphore at zero, when the words name rows of the table. -/
theorem quiet (hrow : ∀ (c : Dev nD) y, (show BitVec 32 from m ((c : Thread nD τ).loc main_arg0) y).toNat < 100000) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_dma_forget_shared cfgs (dats m noInv (fun _ _ => filler)) 0 launch₀0 osem0 defs₀ Variants.none fgt6
    ownSemFacts0 H0 H0_sub m ρ main
    (fun c => quiet_obligation m _ c (noInv_keeps m c) (fun y => by rw [V_main_arg0]; exact hrow c y))
    (fun _ _ _ => rfl) (fun _ _ => rfl) (V m) (hmainD m Variants.none) (fun _ _ => rfl)
    (fun c => Phi_in m c (noInv_keeps m c)) (fun c => Phi_out m c _) _
    (fun r h => ⟨fun c =>
      ⟨(kept_of m c 0 rfl _ ((h.1 c).1 0)).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       (kept_of m c 4 rfl _ ((h.1 c).1 4)).trans (V_main_arg4 m c),
       ((h.1 c).2 main_arg5 (Pipeline.mem_restRefs_of main_arg5 (by decide) (by decide))).trans (V_main_arg5 m c)⟩, h.2⟩)

end Cert.KernelIdeal.Hand

end
-- ==== Proof.KernelIdeal.Args.lean ====
/-
  What the preconditions say of the arguments: the words name rows of the table, the output weights are finite, the
  output bias is below +∞.
-/
module

public import proofs.«01_k».proof.Defs
public import proofs.«01_k».proof.Proof.Gen.Pre_rows_exist
public import proofs.«01_k».proof.Proof.Gen.Pre_rows_exist_logits_below_inf
public import Idealize.ShloMosaic.PureOps.Ideal

@[expose] public section

noncomputable section

namespace Cert.Args

open Idealize.ShloMosaic

theorem andi_ofBool (p q : Bool) : IntOp.andi (BitVec.ofBool p) (BitVec.ofBool q) = BitVec.ofBool (p && q) := by
  cases p <;> cases q <;> rfl
theorem ofBool_eq_one {p : Bool} : BitVec.ofBool p = 1#1 ↔ p = true := by cases p <;> decide

/-- A word at least 0 and below 100000, both signed, is below 100000 unsigned. -/
theorem word_lt (w : BitVec 32) (h : (BitVec.sle 0#32 w && BitVec.slt w 100000#32) = true) : w.toNat < 100000 := by
  simp only [Bool.and_eq_true, BitVec.sle, BitVec.slt, decide_eq_true_eq, BitVec.toInt, BitVec.toNat_ofNat] at h
  omega

/-- Under the first precondition every word names a row of the table. -/
theorem rows_of {F : FTy → Type} [FloatOps F] (a0 a1 a2 a3 a4 a5)
    (h : Cert.Pre_rows_exist.fn (F := F) a0 a1 a2 a3 a4 a5 = fun _ => 1#1) (y) : (show BitVec 32 from a0 y).toNat < 100000 := by
  have e := congrFun h y
  simp only [Pre_rows_exist.fn, andi, cmpi, broadcastInDim, constantI, IntOp.cmpi, andi_ofBool, ofBool_eq_one] at e
  exact word_lt _ e

/-- Under the second precondition every word names a row of the table. -/
theorem rows_of' (a0 a1 a2 a3 a4 a5)
    (h : (Cert.Pre_rows_exist_logits_below_inf.fn (F := Ideal) a0 a1 a2 a3 a4 a5).1 = fun _ => 1#1) (y) :
    (show BitVec 32 from a0 y).toNat < 100000 := by
  have e := congrFun h y
  simp only [Pre_rows_exist_logits_below_inf.fn, andi, cmpi, broadcastInDim, constantI, IntOp.cmpi, andi_ofBool, ofBool_eq_one] at e
  exact word_lt _ e

/-- A value that compares below the pattern of +∞ is below +∞. -/
theorem lt_top_of {v : EReal} (e : Ideal.cmp .olt v (Ideal.ofBits .f32 0x7F800000#32) = 1#1) : v < ⊤ := by
  have htop : Ideal.ofBits .f32 0x7F800000#32 = ⊤ := by simp [Ideal.ofBits, Ideal.ieee]
  rw [htop] at e
  unfold Ideal.cmp at e
  simpa using ofBool_eq_one.mp e

/-- Under the second precondition every output weight is finite. -/
theorem weights_of (a0 a1 a2 a3 a4 a5)
    (h : (Cert.Pre_rows_exist_logits_below_inf.fn (F := Ideal) a0 a1 a2 a3 a4 a5).2.1 = fun _ => 1#1) (y) :
    (show EReal from a4 y) ≠ ⊤ ∧ (show EReal from a4 y) ≠ ⊥ := by
  have e := congrFun h y
  simp only [Pre_rows_exist_logits_below_inf.fn, cmpf, broadcastInDim, constant, Host.absf] at e
  have h2 : max (show EReal from a4 y) (-(show EReal from a4 y)) < ⊤ := lt_top_of e
  rw [max_lt_iff] at h2
  refine ⟨ne_top_of_lt h2.1, fun hb => ?_⟩
  have h3 := h2.2
  rw [hb, EReal.neg_bot] at h3
  exact absurd h3 (lt_irrefl _)

/-- Under the second precondition no output bias is +∞. -/
theorem bias_of (a0 a1 a2 a3 a4 a5)
    (h : (Cert.Pre_rows_exist_logits_below_inf.fn (F := Ideal) a0 a1 a2 a3 a4 a5).2.2 = fun _ => 1#1) (y) :
    (show EReal from a5 y) ≠ ⊤ := by
  have e := congrFun h y
  simp only [Pre_rows_exist_logits_below_inf.fn, cmpf, broadcastInDim, constant] at e
  exact ne_top_of_lt (lt_top_of e)

end Cert.Args

end
-- ==== Proof.Value.Softmax.lean ====
/-
  The log-softmax in one pass over the extended reals: the running maximum and the running sum of exponentials, and
  their agreement with the log-softmax taken at once.
-/
module

public import Idealize.ShloMosaic.PureOps.Ideal
public import Idealize.ShloMosaic.PureOps.Ideal.Laws

@[expose] public section

noncomputable section

namespace Cert.Softmax

open Idealize.ShloMosaic

/-- The maximum of the first `n` entries. -/
def mx (l : ℕ → EReal) (n : ℕ) : EReal := (Finset.range n).sup l
/-- The sum of the exponentials of the first `n` entries, each less `M`. -/
def sm (l : ℕ → EReal) (M : EReal) (n : ℕ) : EReal := ∑ i ∈ Finset.range n, Ideal.exp (l i - M)

theorem exp_nonneg (x : EReal) : 0 ≤ Ideal.exp x := by
  induction x using EReal.rec with
  | bot => exact le_rfl
  | coe r => exact EReal.coe_nonneg.mpr (Real.exp_pos r).le
  | top => exact le_top

theorem bot_sub (x : EReal) : (⊥ : EReal) - x = ⊥ := by rw [sub_eq_add_neg, EReal.bot_add]

/-- A sum of values at least zero times a value is the sum of the products. -/
theorem sum_mul_of_nonneg {ι : Type*} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, ← ih]
    exact EReal.right_distrib_of_nonneg (hf a) (Finset.sum_nonneg fun i _ => hf i)

/-- Rescaling one exponential from one bound of the entry to a larger one. -/
theorem exp_rescale (x M M' : EReal) (hx : x ≤ M) (hM : M ≤ M') (hM' : M' ≠ ⊤) :
    Ideal.exp (x - M) * Ideal.exp (M - M') = Ideal.exp (x - M') := by
  induction M using EReal.rec with
  | bot =>
    rw [le_bot_iff.mp hx, bot_sub, bot_sub]
    show (0 : EReal) * 0 = 0
    exact zero_mul _
  | top => exact absurd (top_le_iff.mp hM) hM'
  | coe M =>
    induction M' using EReal.rec with
    | bot => exact absurd (le_bot_iff.mp hM) (EReal.coe_ne_bot M)
    | top => exact absurd rfl hM'
    | coe M' =>
      induction x using EReal.rec with
      | bot =>
        rw [bot_sub, bot_sub]
        show (0 : EReal) * _ = 0
        exact zero_mul _
      | top => exact absurd (top_le_iff.mp hx) (EReal.coe_ne_top M)
      | coe x =>
        rw [← EReal.coe_sub, ← EReal.coe_sub, ← EReal.coe_sub]
        show ((Real.exp (x - M) : ℝ) : EReal) * ((Real.exp (M - M') : ℝ) : EReal) = ((Real.exp (x - M') : ℝ) : EReal)
        rw [← EReal.coe_mul, ← Real.exp_add]
        congr 2
        ring

theorem mx_le (l : ℕ → EReal) {i n : ℕ} (h : i < n) : l i ≤ mx l n := Finset.le_sup (Finset.mem_range.mpr h)

theorem mx_mono (l : ℕ → EReal) {n n' : ℕ} (h : n ≤ n') : mx l n ≤ mx l n' :=
  Finset.sup_mono (Finset.range_mono h)

theorem mx_ne_top (l : ℕ → EReal) (hl : ∀ i, l i ≠ ⊤) (n : ℕ) : mx l n ≠ ⊤ :=
  ne_top_of_lt ((Finset.sup_lt_iff bot_lt_top).mpr fun i _ => lt_top_iff_ne_top.mpr (hl i))

/-- The running sum, rescaled to a larger maximum. -/
theorem sm_rescale (l : ℕ → EReal) (hl : ∀ i, l i ≠ ⊤) {n n' : ℕ} (h : n ≤ n') :
    sm l (mx l n) n * Ideal.exp (mx l n - mx l n') = sm l (mx l n') n := by
  unfold sm
  rw [sum_mul_of_nonneg _ _ (fun i => exp_nonneg _)]
  exact Finset.sum_congr rfl fun i hi =>
    exp_rescale _ _ _ (mx_le l (Finset.mem_range.mp hi)) (mx_mono l h) (mx_ne_top l hl n')

/-- A block's entries after the first `n`. -/
theorem mx_add (l : ℕ → EReal) (n k : ℕ) :
    mx l (n + k) = max (mx l n) (Finset.univ.sup fun i : Fin k => l (n + i.val)) := by
  refine le_antisymm (Finset.sup_le fun i hi => ?_) (max_le (mx_mono l (Nat.le_add_right n k)) (Finset.sup_le fun i _ => mx_le l (by omega)))
  have hi := Finset.mem_range.mp hi
  by_cases h : i < n
  · exact le_max_of_le_left (mx_le l h)
  · refine le_max_of_le_right ?_
    have := Finset.le_sup (f := fun i : Fin k => l (n + i.val)) (Finset.mem_univ (⟨i - n, by omega⟩ : Fin k))
    refine le_trans (le_of_eq ?_) this
    show l i = l (n + (i - n))
    congr 1; omega

theorem sm_add (l : ℕ → EReal) (M : EReal) (n k : ℕ) :
    sm l M (n + k) = sm l M n + ∑ i : Fin k, Ideal.exp (l (n + i.val) - M) := by
  unfold sm
  rw [Finset.sum_range_add, Finset.sum_range fun i => Ideal.exp (l (n + i) - M)]

/-- The maximum after a block of two halves of `k` entries. -/
theorem mx_block (l : ℕ → EReal) (n k : ℕ) :
    max (mx l n) (max (Finset.univ.sup fun i : Fin k => l (n + i.val)) (Finset.univ.sup fun i : Fin k => l (n + k + i.val)))
      = mx l (n + k + k) := by
  rw [mx_add, mx_add, max_assoc]

/-- The sum after a block of two halves of `k` entries. -/
theorem sm_block (l : ℕ → EReal) (hl : ∀ i, l i ≠ ⊤) (n k : ℕ) :
    sm l (mx l n) n * Ideal.exp (mx l n - mx l (n + k + k))
        + (∑ i : Fin k, Ideal.exp (l (n + i.val) - mx l (n + k + k)))
        + (∑ i : Fin k, Ideal.exp (l (n + k + i.val) - mx l (n + k + k)))
      = sm l (mx l (n + k + k)) (n + k + k) := by
  rw [sm_rescale l hl (by omega : n ≤ n + k + k), sm_add, sm_add]

/-- Entries of value minus infinity after the first `n` change neither. -/
theorem mx_tail (l : ℕ → EReal) {n n' : ℕ} (h : n ≤ n') (hb : ∀ i, n ≤ i → l i = ⊥) : mx l n' = mx l n := by
  refine le_antisymm (Finset.sup_le fun i hi => ?_) (mx_mono l h)
  by_cases hi' : i < n
  · exact mx_le l hi'
  · rw [hb i (by omega)]; exact bot_le

theorem sm_tail (l : ℕ → EReal) (M : EReal) {n n' : ℕ} (h : n ≤ n') (hb : ∀ i, n ≤ i → l i = ⊥) : sm l M n' = sm l M n := by
  unfold sm
  refine (Finset.sum_subset (Finset.range_mono h) fun i _ hi => ?_).symm
  rw [hb i (by simpa using hi), bot_sub]
  rfl

/-- Subtracting a maximum and a logarithm at once or one after the other. -/
theorem sub_add (l M x : EReal) (hM : M ≠ ⊤) (hl : l ≤ M) : l - (M + x) = l - M - x := by
  induction M using EReal.rec with
  | top => exact absurd rfl hM
  | bot => rw [le_bot_iff.mp hl, bot_sub, bot_sub, bot_sub]
  | coe M =>
    induction l using EReal.rec with
    | top => exact absurd (top_le_iff.mp hl) (EReal.coe_ne_top M)
    | bot => rw [bot_sub, bot_sub, bot_sub]
    | coe l =>
      induction x using EReal.rec with
      | top => rw [EReal.coe_add_top, sub_eq_add_neg, sub_eq_add_neg, EReal.neg_top, EReal.add_bot, EReal.add_bot]
      | bot => rw [EReal.add_bot, ← EReal.coe_sub, EReal.coe_sub_bot, EReal.coe_sub_bot]
      | coe x =>
        rw [← EReal.coe_add, ← EReal.coe_sub, ← EReal.coe_sub, ← EReal.coe_sub]
        congr 1
        ring

end Cert.Softmax

end
-- ==== Proof.Value.Block.lean ====
/-
  What one block of the kernel computes over the extended reals, read at an index: the products with the bias, the
  masked products, the running maximum, the running sum, the hidden vector and the row of the result.
-/
module

public import proofs.«01_k».proof.Proof.KernelIdeal.Base
public import proofs.«01_k».proof.Proof.Value.Softmax
public import Idealize.ShloMosaic.Lib.MatmulPlain

@[expose] public section

set_option maxRecDepth 16384

noncomputable section

namespace Cert.KernelIdeal.Value

open Cert.KernelIdeal Cert.KernelIdeal.Gen Cert.KernelIdeal.Hand Cert.Softmax
open Idealize.ShloMosaic Idealize.ShloMosaic.ValueIdx

/-- A column of a block: the hidden vector times the column, plus the bias there. -/
theorem left_apply (h : Vec Ideal S1x100 .f32) (w : Vec Ideal S100x6400 .f32) (b : Vec Ideal S1x6400 .f32) (k : Fin 6400) :
    k0_pay6 h w b (ix2 0 k) = ((∑ q : Fin 100, (h (ix2 0 q) : EReal) * w (ix2 q k)) + b (ix2 0 k) : EReal) := by
  unfold k0_pay6
  show (FloatOps.matmul (F := Ideal) (DotDims.plain 1 100 6400) none h w (constant S1x6400 .f32 0x00000000#32) (ix2 0 k) : EReal)
    + shapeCast S1x6400 b shapeCasts_S1x6400_S1x6400 (ix2 0 k) = _
  rw [Ideal.matmul_plain_apply, shapeCast_self]
  show ((Ideal.ofBits .f32 0x00000000#32 + _ : EReal) + _ : EReal) = _
  rw [Ideal.ofBits_zero_f32, zero_add]

theorem right_apply (h : Vec Ideal S1x100 .f32) (w : Vec Ideal S100x6400 .f32) (b : Vec Ideal S1x6400 .f32) (k : Fin 6400) :
    k0_pay7 h w b (ix2 0 k) = ((∑ q : Fin 100, (h (ix2 0 q) : EReal) * w (ix2 q k)) + b (ix2 0 k) : EReal) :=
  left_apply h w b k

/-! ## The mask -/

theorem neg_inf : Ideal.ofBits .f32 0xFF800000#32 = ⊥ := by simp [Ideal.ofBits, Ideal.ieee]

/-- A small word compares as its number. -/
theorem slt_small (n : ℕ) (hn : n < 200000) : IntOp.cmpi .slt (BitVec.ofNat 32 n) 100000#32 = if n < 100000 then 1#1 else 0#1 := by
  have e1 : (BitVec.ofNat 32 n).toInt = n := by
    rw [BitVec.toInt_eq_toNat_of_lt (by rw [BitVec.toNat_ofNat]; omega), BitVec.toNat_ofNat]; omega
  have e2 : (100000#32).toInt = 100000 := by decide
  show BitVec.ofBool (BitVec.slt _ _) = _
  rw [BitVec.slt, e1, e2]
  by_cases h : n < 100000
  · rw [if_pos h, decide_eq_true (by exact_mod_cast h)]; rfl
  · rw [if_neg h, decide_eq_false (by exact_mod_cast h)]; rfl

theorem col_word (j : ℕ) (k : Fin 6400) :
    k0_pay8 (BitVec.ofNat 32 j) (ix2 0 k) = BitVec.ofNat 32 (12800 * j + k.val) := by
  unfold k0_pay8
  show IntOp.addi (IntOp.muli (BitVec.ofNat 32 j) 12800#32) (iota .tc S1x6400 32 [1] iota_S1x6400_d1_w32 (ix2 0 k)) = _
  rw [iota_single_apply]
  show BitVec.ofNat 32 j * 12800#32 + BitVec.ofNat 32 k.val = _
  apply BitVec.eq_of_toNat_eq
  simp only [BitVec.toNat_add, BitVec.toNat_mul, BitVec.toNat_ofNat]
  omega

/-- The left products masked: minus infinity past the vocabulary. -/
theorem left_masked (j : ℕ) (hj : j < 8) (h : Vec Ideal S1x100 .f32) (w : Vec Ideal S100x6400 .f32) (b : Vec Ideal S1x6400 .f32)
    (k : Fin 6400) :
    k0_pay9 (BitVec.ofNat 32 j) h w b (ix2 0 k)
      = if 12800 * j + k.val < 100000 then k0_pay6 h w b (ix2 0 k) else (⊥ : EReal) := by
  have hk := k.isLt
  unfold k0_pay9
  show Scalar.select (IntOp.cmpi .slt (k0_pay8 (BitVec.ofNat 32 j) (ix2 0 k)) 100000#32) (k0_pay6 h w b (ix2 0 k))
    (Ideal.ofBits .f32 0xFF800000#32) = _
  rw [col_word, slt_small _ (by omega), neg_inf]
  by_cases hc : 12800 * j + k.val < 100000
  · rw [if_pos hc, if_pos hc]; rfl
  · rw [if_neg hc, if_neg hc]; rfl

/-- The right products masked. -/
theorem right_masked (j : ℕ) (hj : j < 8) (h : Vec Ideal S1x100 .f32) (w : Vec Ideal S100x6400 .f32) (b : Vec Ideal S1x6400 .f32)
    (k : Fin 6400) :
    k0_pay10 (BitVec.ofNat 32 j) h w b (ix2 0 k)
      = if 12800 * j + 6400 + k.val < 100000 then k0_pay7 h w b (ix2 0 k) else (⊥ : EReal) := by
  have hk := k.isLt
  unfold k0_pay10
  show Scalar.select (IntOp.cmpi .slt (IntOp.addi (k0_pay8 (BitVec.ofNat 32 j) (ix2 0 k)) 6400#32) 100000#32) (k0_pay7 h w b (ix2 0 k))
    (Ideal.ofBits .f32 0xFF800000#32) = _
  rw [col_word, show IntOp.addi (BitVec.ofNat 32 (12800 * j + k.val)) 6400#32 = BitVec.ofNat 32 (12800 * j + 6400 + k.val) by
      show BitVec.ofNat 32 (12800 * j + k.val) + 6400#32 = _
      apply BitVec.eq_of_toNat_eq
      simp only [BitVec.toNat_add, BitVec.toNat_ofNat]
      omega,
    slt_small _ (by omega), neg_inf]
  by_cases hc : 12800 * j + 6400 + k.val < 100000
  · rw [if_pos hc, if_pos hc]; rfl
  · rw [if_neg hc, if_neg hc]; rfl

/-! ## The two reductions of a block -/

/-- The positions of a one-row block are its columns. -/
def cols : Fin 6400 ≃ S1x1x6400.Idx where
  toFun k := ix3 0 0 k
  invFun i := i 2
  left_inv _ := rfl
  right_inv i := by
    have e := eq_ix3 i
    have e0 : i 0 = (0 : Fin 1) := Subsingleton.elim (α := Fin 1) _ _
    have e1 : i 1 = (0 : Fin 1) := Subsingleton.elim (α := Fin 1) _ _
    rw [e0, e1] at e
    exact e.symm

theorem cast_row (v : Vec Ideal S1x6400 .f32) (k : Fin 6400) :
    shapeCast S1x1x6400 v shapeCasts_S1x6400_S1x1x6400 (ix3 0 0 k) = v (ix2 0 k) :=
  shapeCast_apply v _ _ _ (by
    refine (Shape.rowMajor_val_two _).trans (Eq.trans ?_ (Shape.rowMajor_val_three _).symm)
    show 0 * 6400 + k.val = (0 * 1 + 0) * 6400 + k.val
    omega)

/-- A block's sum, as the body takes it. -/
def bsum (v : FVec Ideal S1x6400 .f32) : EReal :=
  extractAt ![0, 0, 0] (shapeCast S1x1x1 (multiReduction .add [1, 2] S1 (shapeCast S1x1x6400 v shapeCasts_S1x6400_S1x1x6400)
    0x00000000#32 reduces_S1x1x6400_S1 (.inl rfl) rfl) shapeCasts_S1_S1x1x1) inpos_S1x1x1_p0_0_0

/-- A block's maximum, as the body takes it. -/
def bmax (v : FVec Ideal S1x6400 .f32) : EReal :=
  extractAt ![0, 0, 0] (shapeCast S1x1x1 (multiReduction .maximumf [1, 2] S1 (shapeCast S1x1x6400 v shapeCasts_S1x6400_S1x1x6400)
    0xFF800000#32 reduces_S1x1x6400_S1 (.inl rfl) rfl) shapeCasts_S1_S1x1x1) inpos_S1x1x1_p0_0_0

/-- It is the sum over the columns. -/
theorem bsum_apply (v : FVec Ideal S1x6400 .f32) : bsum v = ∑ k : Fin 6400, (v (ix2 0 k) : EReal) := by
  unfold bsum extractAt
  refine (shapeCast_apply _ _ _ (ix1 0) rfl).trans ?_
  refine (Ideal.multiReduction_add_total (shapeCast S1x1x6400 v shapeCasts_S1x6400_S1x1x6400) _ reduces_S1x1x6400_S1 (by decide)
    (.inl rfl) rfl _).trans ?_
  rw [← Equiv.sum_comp cols]
  exact Finset.sum_congr rfl fun k _ => cast_row v k

/-- It is the maximum over the columns. -/
theorem bmax_apply (v : FVec Ideal S1x6400 .f32) : bmax v = Finset.univ.sup fun k : Fin 6400 => (v (ix2 0 k) : EReal) := by
  unfold bmax extractAt
  refine (shapeCast_apply _ _ _ (ix1 0) rfl).trans ?_
  refine (multiReduction_maximumf_eq_fold (shapeCast S1x1x6400 v shapeCasts_S1x6400_S1x1x6400) _ reduces_S1x1x6400_S1
    (.inl rfl) rfl _).trans ?_
  have hall : (Finset.univ.filter fun i : S1x1x6400.Idx => reduces_S1x1x6400_S1.drop i = ix1 0) = Finset.univ :=
    Finset.filter_true_of_mem fun i _ => funext fun b => Fin.ext (by
      have h1 : (reduces_S1x1x6400_S1.drop i b).val < S1.size b := (reduces_S1x1x6400_S1.drop i b).isLt
      have h2 : ((ix1 0 : S1.Idx) b).val < S1.size b := ((ix1 0 : S1.Idx) b).isLt
      have h3 : ∀ b : Fin S1.rank, S1.size b = 1 := by decide
      have h3 := h3 b
      omega)
  rw [hall]
  show Finset.fold max (Ideal.ofBits .f32 0xFF800000#32) _ _ = _
  rw [neg_inf]
  show (Finset.univ : Finset S1x1x6400.Idx).sup _ = _
  rw [← Finset.univ_map_equiv_to_embedding cols, Finset.sup_map]
  exact Finset.sup_congr rfl fun k _ => cast_row v k

/-- The running maximum after a block. -/
theorem newM_apply (i : grid0.Coords) (h : Vec Ideal S1x100 .f32) (wa wb : Vec Ideal S100x6400 .f32) (b : S1x12800.Idx → Elt Ideal .f32)
    (m : Elt Ideal .f32) :
    newM i h wa wb b m = (max (m : EReal) (max (Finset.univ.sup fun k : Fin 6400 => (k0_pay9 (jw i) h wa (biasL b) (ix2 0 k) : EReal))
      (Finset.univ.sup fun k : Fin 6400 => (k0_pay10 (jw i) h wb (biasR b) (ix2 0 k) : EReal))) : EReal) := by
  rw [← bmax_apply, ← bmax_apply]
  rfl

/-- The running sum after a block. -/
theorem newS_apply (i : grid0.Coords) (h : Vec Ideal S1x100 .f32) (wa wb : Vec Ideal S100x6400 .f32) (b : S1x12800.Idx → Elt Ideal .f32)
    (m s : Elt Ideal .f32) :
    newS i h wa wb b m s = ((s : EReal) * Ideal.exp ((m : EReal) - newM i h wa wb b m)
      + (∑ k : Fin 6400, Ideal.exp ((k0_pay9 (jw i) h wa (biasL b) (ix2 0 k) : EReal) - newM i h wa wb b m))
      + (∑ k : Fin 6400, Ideal.exp ((k0_pay10 (jw i) h wb (biasR b) (ix2 0 k) : EReal) - newM i h wa wb b m)) : EReal) := by
  have e (v : FVec Ideal S1x6400 .f32) (M : Ideal .f32) :
      (∑ k : Fin 6400, Ideal.exp ((v (ix2 0 k) : EReal) - M)) = bsum (exp (subf v (broadcast S1x6400 M))) :=
    (bsum_apply (exp (subf v (broadcast S1x6400 M)))).symm
  rw [e, e]
  rfl

/-- The row of the result. -/
theorem row_apply (m s : Elt Ideal .f32) (v : Vec Ideal S1x12800 .f32) (y : S1x12800.Idx) :
    k0_pay5 m s v y = ((v y : EReal) - ((m : EReal) + Ideal.log s) : EReal) := rfl

/-- The hidden vector. -/
theorem hid_apply (x : S4.Idx → Elt Ideal .i32) (E : S100000x30.Idx → Elt Ideal .f32) (w : Vec Ideal S4x30x100 .f32)
    (b : Vec Ideal S1x100 .f32) (q : Fin 100) :
    hid x E w b (ix2 0 q)
      = Ideal.tanh ((∑ t : Fin 4, ∑ e : Fin 30, (gath x E (ix2 t e) : EReal) * w (ix3 t e q)) + b (ix2 0 q)) := by
  unfold hid k0_pay1
  simp only [shapeCast_self]
  refine (shapeCast_apply _ _ _ (ix1 q) ((Shape.rowMajor_val_one _).trans (Eq.trans (by
    show q.val = 0 * 100 + q.val
    omega) (Shape.rowMajor_val_two _).symm))).trans ?_
  refine congrArg Ideal.tanh (congrArg₂ (fun a b : EReal => a + b) ?_ ?_)
  · show Ideal.reduceAdd _ _ _ = _
    unfold Ideal.reduceAdd
    rw [← Fintype.sum_prod_type' (fun (t : Fin 4) (e : Fin 30) => (gath x E (ix2 t e) : EReal) * w (ix3 t e q))]
    refine Finset.sum_nbij' (fun i => (i 0, i 1)) (fun p => ix3 p.1 p.2 q) (fun _ _ => Finset.mem_univ _) ?_ ?_ (fun _ _ => rfl) ?_
    · intro p _
      refine Finset.mem_filter.mpr ⟨Finset.mem_univ _, funext fun a => ?_⟩
      fin_cases a
      rfl
    · intro i hi
      have hi := congrFun (Finset.mem_filter.mp hi).2 0
      have e := eq_ix3 i
      refine Eq.trans ?_ e.symm
      exact congrArg (ix3 (i 0) (i 1)) hi.symm
    · intro i hi
      have hi := congrFun (Finset.mem_filter.mp hi).2 0
      show ((broadcastTo S4x30x100 (shapeCast S4x30x1 (gath x E) shapeCasts_S4x30_S4x30x1) broadcasts_S4x30x1_S4x30x100 i : EReal)
        * w i) = _
      have e : i = ix3 (i 0) (i 1) q := (eq_ix3 i).trans (congrArg (ix3 (i 0) (i 1)) hi)
      rw [e]
      refine congrArg (fun a : EReal => a * w (ix3 (i 0) (i 1) q)) ?_
      refine (broadcastTo_apply _ _ _ (ix3 (i 0) (i 1) 0) ?_).trans ?_
      · intro a; fin_cases a <;> rfl
      · exact shapeCast_apply _ _ _ (ix2 (i 0) (i 1)) (by
          refine (Shape.rowMajor_val_two _).trans (Eq.trans ?_ (Shape.rowMajor_val_three _).symm)
          show (i 0).val * 30 + (i 1).val = ((i 0).val * 30 + (i 1).val) * 1 + 0
          omega)
  · exact shapeCast_apply _ _ _ (ix2 0 q) ((Shape.rowMajor_val_two _).trans (Eq.trans (by
      show 0 * 100 + q.val = q.val
      omega) (Shape.rowMajor_val_one _).symm))

end Cert.KernelIdeal.Value

end
-- ==== Proof.Value.Model.lean ====
/-
  The mathematics both programs compute, over plain functions of the arguments: the hidden vector, the logits, and the
  logarithm of the softmax of the logits.
-/
module

public import proofs.«01_k».proof.Proof.Value.Softmax

@[expose] public section

noncomputable section

namespace Cert.Model

open Idealize.ShloMosaic Cert.Softmax

/-- The six arguments, read at their coordinates. -/
structure Args where
  /-- the four words of the context -/
  x : Fin 4 → BitVec 32
  /-- the embedding table -/
  E : Fin 100000 → Fin 30 → EReal
  /-- the weights and the bias of the hidden layer -/
  w1 : Fin 120 → Fin 100 → EReal
  b1 : Fin 100 → EReal
  /-- the weights and the bias of the output layer -/
  w2 : Fin 100 → Fin 100000 → EReal
  b2 : Fin 100000 → EReal

variable (A : Args)

/-- The embedding row the word at `t` names. -/
def row (t : Fin 4) (e : Fin 30) : EReal := A.E ⟨(A.x t).toNat % 100000, Nat.mod_lt _ (by decide)⟩ e

/-- The place of the embedding's entry `e` of the word at `t` among the inputs of the hidden layer. -/
def place (t : Fin 4) (e : Fin 30) : Fin 120 := ⟨30 * t.val + e.val, by omega⟩

/-- The hidden vector. -/
def hidden (q : Fin 100) : EReal := Ideal.tanh ((∑ t : Fin 4, ∑ e : Fin 30, row A t e * A.w1 (place t e) q) + A.b1 q)

/-- The logits. -/
def logit (v : Fin 100000) : EReal := (∑ q : Fin 100, hidden A q * A.w2 q v) + A.b2 v

/-- The logits, minus infinity past the vocabulary. -/
def lm (n : ℕ) : EReal := if h : n < 100000 then logit A ⟨n, h⟩ else ⊥

/-- The largest logit. -/
def top : EReal := mx (lm A) 100000

/-- The logarithm of the softmax. -/
def result (v : Fin 100000) : EReal := logit A v - (top A + Ideal.log (sm (lm A) (top A) 100000))

theorem lm_of_lt {n : ℕ} (h : n < 100000) : lm A n = logit A ⟨n, h⟩ := dif_pos h
theorem lm_of_le {n : ℕ} (h : 100000 ≤ n) : lm A n = ⊥ := dif_neg (by omega)

/-- A hyperbolic tangent is a real number. -/
theorem tanh_real (x : EReal) : ∃ r : ℝ, Ideal.tanh x = (r : EReal) := by
  induction x using EReal.rec with
  | bot => exact ⟨-1, by show (-1 : EReal) = ((-1 : ℝ) : EReal); simp⟩
  | coe r => exact ⟨Real.tanh r, rfl⟩
  | top => exact ⟨1, by show (1 : EReal) = ((1 : ℝ) : EReal); simp⟩

/-- A sum of real numbers is a real number. -/
theorem sum_real {ι : Type*} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨p, hp⟩ := hf a
    exact ⟨p + r, by rw [Finset.sum_insert ha, hr, hp, EReal.coe_add]⟩

/-- No logit is plus infinity, when the output weights are finite and no output bias is plus infinity. -/
theorem logit_ne_top (hw : ∀ q v, A.w2 q v ≠ ⊤ ∧ A.w2 q v ≠ ⊥) (hb : ∀ v, A.b2 v ≠ ⊤) (v : Fin 100000) : logit A v ≠ ⊤ := by
  obtain ⟨r, hr⟩ := sum_real Finset.univ (fun q : Fin 100 => hidden A q * A.w2 q v) fun q => by
    obtain ⟨p, hp⟩ := tanh_real ((∑ t : Fin 4, ∑ e : Fin 30, row A t e * A.w1 (place t e) q) + A.b1 q)
    exact ⟨p * (A.w2 q v).toReal, by
      show Ideal.tanh _ * _ = _
      rw [hp, EReal.coe_mul, EReal.coe_toReal (hw q v).1 (hw q v).2]⟩
  unfold logit
  rw [hr]
  refine ne_top_of_lt (EReal.add_lt_top (EReal.coe_ne_top r) (hb v))

theorem lm_ne_top (hw : ∀ q v, A.w2 q v ≠ ⊤ ∧ A.w2 q v ≠ ⊥) (hb : ∀ v, A.b2 v ≠ ⊤) (n : ℕ) : lm A n ≠ ⊤ := by
  unfold lm
  split
  · exact logit_ne_top A hw hb _
  · exact bot_ne_top

/-- Subtracting the maximum first and the logarithm of the sum after it gives the same. -/
theorem result_eq (hw : ∀ q v, A.w2 q v ≠ ⊤ ∧ A.w2 q v ≠ ⊥) (hb : ∀ v, A.b2 v ≠ ⊤) (v : Fin 100000) :
    result A v = logit A v - top A - Ideal.log (sm (lm A) (top A) 100000) := by
  refine sub_add _ _ _ (mx_ne_top _ (lm_ne_top A hw hb) _) ?_
  rw [← lm_of_lt A v.isLt]
  exact mx_le _ v.isLt

end Cert.Model

end
-- ==== Proof.Value.Windows.lean ====
/-
  What the kernel's windows hold, read at an index: the blocks of the output weights and of the output bias inside the
  vocabulary, and the small operands, which are fetched whole.
-/
module

public import proofs.«01_k».proof.Proof.KernelIdeal.Walk

@[expose] public section

set_option maxRecDepth 16384

noncomputable section

namespace Cert.KernelIdeal.Value

open Cert.KernelIdeal Cert.KernelIdeal.Gen Cert.KernelIdeal.Hand
open Idealize.ShloMosaic Idealize.ShloMosaic.ValueIdx Idealize.ShloMosaic.TcCoe Idealize.SL.Sem

variable {F : FTy → Type} [FloatOps F]
variable (m : (ℓ : Loc nD τ sig) → Buf (Elt F) ℓ)

/-! ## The blocks' places -/

theorem index3 : ∀ t : Fin grid0.N, t.val < 8 → cc0_transform_4 (grid0.coords t) = ![0, 2 * t.val] := by decide +kernel
theorem index4 : ∀ t : Fin grid0.N, t.val < 8 → cc0_transform_5 (grid0.coords t) = ![0, 2 * t.val + 1] := by decide +kernel
theorem index5 : ∀ t : Fin grid0.N, t.val < 8 → cc0_transform_6 (grid0.coords t) = ![0, t.val] := by decide +kernel
theorem index6 : ∀ t : Fin grid0.N, 8 ≤ t.val → cc0_transform_7 (grid0.coords t) = ![0, t.val - 8] := by decide +kernel

/-- A position of a block is fetched when it lies in the array. -/
theorem lt_extent {ix k d n : ℕ} (hn : n < k) (h : ix * k + n < d) : n < (Pipeline.Clip.of ix k d).extent k := by
  unfold Pipeline.Clip.of
  split
  · exact hn
  · show n < d - ix * k
    omega

/-! ## The three large windows -/

theorem X3_apply (c : Dev nD) (t : Fin cfg0.N) (ht : t.val < 8) (d) (q : Fin 100) (k : Fin 6400) (h : 12800 * t.val + k.val < 100000) :
    X3 m c t d (ix2 q k) = m ((c : Thread nD τ).loc main_arg4) (ix2 q ⟨12800 * t.val + k.val, h⟩) := by
  have e := index3 t ht
  have e0 : cc0_transform_4 (grid0.coords t) 0 = 0 := by rw [e]; rfl
  have e1 : cc0_transform_4 (grid0.coords t) 1 = 2 * t.val := by rw [e]; rfl
  have hq := q.isLt
  have hk := k.isLt
  unfold X3 Pipeline.Window.fill
  rw [dif_pos ((win0_3.moved_iff _ _).mpr fun a => by
    fin_cases a
    · show q.val < (Pipeline.Clip.of (cc0_transform_4 (grid0.coords t) 0) 100 100).extent 100
      exact lt_extent hq (by rw [e0]; omega)
    · show k.val < (Pipeline.Clip.of (cc0_transform_4 (grid0.coords t) 1) 6400 100000).extent 6400
      exact lt_extent hk (by rw [e1]; omega))]
  rw [← V_main_arg4 m c]
  refine congrArg (V m c main_arg4) (funext fun a => Fin.ext ?_)
  refine (win0_3.rect_emb_val t _ a).trans ?_
  fin_cases a
  · show cc0_transform_4 (grid0.coords t) 0 * 100 + q.val = q.val
    rw [e0]; omega
  · show cc0_transform_4 (grid0.coords t) 1 * 6400 + k.val = 12800 * t.val + k.val
    rw [e1]; omega

theorem X4_apply (c : Dev nD) (t : Fin cfg0.N) (ht : t.val < 8) (d) (q : Fin 100) (k : Fin 6400) (h : 12800 * t.val + 6400 + k.val < 100000) :
    X4 m c t d (ix2 q k) = m ((c : Thread nD τ).loc main_arg4) (ix2 q ⟨12800 * t.val + 6400 + k.val, h⟩) := by
  have e := index4 t ht
  have e0 : cc0_transform_5 (grid0.coords t) 0 = 0 := by rw [e]; rfl
  have e1 : cc0_transform_5 (grid0.coords t) 1 = 2 * t.val + 1 := by rw [e]; rfl
  have hq := q.isLt
  have hk := k.isLt
  unfold X4 Pipeline.Window.fill
  rw [dif_pos ((win0_4.moved_iff _ _).mpr fun a => by
    fin_cases a
    · show q.val < (Pipeline.Clip.of (cc0_transform_5 (grid0.coords t) 0) 100 100).extent 100
      exact lt_extent hq (by rw [e0]; omega)
    · show k.val < (Pipeline.Clip.of (cc0_transform_5 (grid0.coords t) 1) 6400 100000).extent 6400
      exact lt_extent hk (by rw [e1]; omega))]
  rw [← V_main_arg4 m c]
  refine congrArg (V m c main_arg4) (funext fun a => Fin.ext ?_)
  refine (win0_4.rect_emb_val t _ a).trans ?_
  fin_cases a
  · show cc0_transform_5 (grid0.coords t) 0 * 100 + q.val = q.val
    rw [e0]; omega
  · show cc0_transform_5 (grid0.coords t) 1 * 6400 + k.val = 12800 * t.val + 6400 + k.val
    rw [e1]; omega

/-! ## The reshapes before the kernel -/

theorem V_main_v0 (c : Dev nD) : V m c main_v0
    = shapeCast S4x30x100 (m ((c : Thread nD τ).loc main_arg2)) shapeCasts_S120x100_S4x30x100 := by
  unfold V
  simp only [hostOps0, List.flatten_cons, List.flatten_nil, List.append_nil, List.cons_append, List.nil_append]
  after_results_simp
  rfl

theorem V_main_v1 (c : Dev nD) : V m c main_v1
    = shapeCast S1x100 (m ((c : Thread nD τ).loc main_arg3)) shapeCasts_S100_S1x100 := by
  unfold V
  simp only [hostOps0, List.flatten_cons, List.flatten_nil, List.append_nil, List.cons_append, List.nil_append]
  after_results_simp
  rfl

theorem V_main_v2 (c : Dev nD) : V m c main_v2
    = shapeCast S1x100000 (m ((c : Thread nD τ).loc main_arg5)) shapeCasts_S100000_S1x100000 := by
  unfold V
  simp only [hostOps0, List.flatten_cons, List.flatten_nil, List.append_nil, List.cons_append, List.nil_append]
  after_results_simp
  rfl

theorem X5_apply (c : Dev nD) (t : Fin cfg0.N) (ht : t.val < 8) (d) (k : Fin 12800) (h : 12800 * t.val + k.val < 100000) :
    X5 m c t d (ix2 0 k) = m ((c : Thread nD τ).loc main_arg5) (ix1 ⟨12800 * t.val + k.val, h⟩) := by
  have e := index5 t ht
  have e0 : cc0_transform_6 (grid0.coords t) 0 = 0 := by rw [e]; rfl
  have e1 : cc0_transform_6 (grid0.coords t) 1 = t.val := by rw [e]; rfl
  have hk := k.isLt
  unfold X5 Pipeline.Window.fill
  rw [dif_pos ((win0_5.moved_iff _ _).mpr fun a => by
    fin_cases a
    · show 0 < (Pipeline.Clip.of (cc0_transform_6 (grid0.coords t) 0) 1 1).extent 1
      exact lt_extent (by decide) (by rw [e0]; omega)
    · show k.val < (Pipeline.Clip.of (cc0_transform_6 (grid0.coords t) 1) 12800 100000).extent 12800
      exact lt_extent hk (by rw [e1]; omega))]
  refine Eq.trans (b := V m c main_v2 (ix2 0 ⟨12800 * t.val + k.val, h⟩)) (congrArg (V m c main_v2) (funext fun a => Fin.ext ?_)) ?_
  · refine (win0_5.rect_emb_val t _ a).trans ?_
    fin_cases a
    · show cc0_transform_6 (grid0.coords t) 0 * 1 + 0 = 0
      rw [e0]
    · show cc0_transform_6 (grid0.coords t) 1 * 12800 + k.val = 12800 * t.val + k.val
      rw [e1]; omega
  · rw [V_main_v2]
    exact shapeCast_apply _ _ _ _ ((Shape.rowMajor_val_one _).trans (Eq.trans (by
      show 12800 * t.val + k.val = 0 * 100000 + (12800 * t.val + k.val)
      omega) (Shape.rowMajor_val_two _).symm))

/-! ## The small operands -/

theorem blk0_apply (c : Dev nD) (t : Fin cfg0.N) (y : Fin 4) :
    iblk m c 0 t (ix1 y) = m ((c : Thread nD τ).loc main_arg0) (ix1 y) := by
  rw [← V_main_arg0 m c]
  refine congrArg (V m c main_arg0) (funext fun a => Fin.ext ?_)
  refine (win0_0.rect_emb_val t _ a).trans ?_
  fin_cases a
  show 0 * 4 + y.val = y.val
  omega

theorem blk1_apply (c : Dev nD) (t : Fin cfg0.N) (p : Fin 4) (e : Fin 30) (q : Fin 100) (r : Fin 120) (hr : r.val = 30 * p.val + e.val) :
    iblk m c 1 t (ix3 p e q) = m ((c : Thread nD τ).loc main_arg2) (ix2 r q) := by
  refine Eq.trans (b := V m c main_v0 (ix3 p e q)) (congrArg (V m c main_v0) (funext fun a => Fin.ext ?_)) ?_
  · refine (win0_1.rect_emb_val t _ a).trans ?_
    fin_cases a
    · show 0 * 4 + p.val = p.val
      omega
    · show 0 * 30 + e.val = e.val
      omega
    · show 0 * 100 + q.val = q.val
      omega
  · rw [V_main_v0]
    exact shapeCast_apply _ _ _ _ ((Shape.rowMajor_val_two _).trans (Eq.trans (by
      show r.val * 100 + q.val = (p.val * 30 + e.val) * 100 + q.val
      rw [hr]; omega) (Shape.rowMajor_val_three _).symm))

theorem blk2_apply (c : Dev nD) (t : Fin cfg0.N) (q : Fin 100) :
    iblk m c 2 t (ix2 0 q) = m ((c : Thread nD τ).loc main_arg3) (ix1 q) := by
  refine Eq.trans (b := V m c main_v1 (ix2 0 q)) (congrArg (V m c main_v1) (funext fun a => Fin.ext ?_)) ?_
  · refine (win0_2.rect_emb_val t _ a).trans ?_
    fin_cases a
    · show 0 * 1 + 0 = 0
      omega
    · show 0 * 100 + q.val = q.val
      omega
  · rw [V_main_v1]
    exact shapeCast_apply _ _ _ _ ((Shape.rowMajor_val_one _).trans (Eq.trans (by
      show q.val = 0 * 100 + q.val
      omega) (Shape.rowMajor_val_two _).symm))

end Cert.KernelIdeal.Value

end
-- ==== Proof.Value.Keep.lean ====
/-
  What the scratch buffers hold before each point, over the extended reals: the hidden vector, the logits of the blocks
  done, the maximum of those logits and the sum of their exponentials. The points keep it.
-/
module

public import proofs.«01_k».proof.Proof.Value.Block
public import proofs.«01_k».proof.Proof.Value.Model
public import proofs.«01_k».proof.Proof.Value.Windows

@[expose] public section

set_option maxRecDepth 16384

noncomputable section

namespace Cert.KernelIdeal.Value

open Cert.KernelIdeal Cert.KernelIdeal.Gen Cert.KernelIdeal.Hand Cert.Softmax Cert.Model
open Idealize.ShloMosaic Idealize.ShloMosaic.ValueIdx Idealize.ShloMosaic.TcCoe Idealize.SL.Sem

variable (m : (ℓ : Loc nD τ sig) → Buf (Elt Ideal) ℓ)

/-- The arguments of a core, as the mathematics takes them. -/
def args (c : Dev nD) : Args where
  x t := m ((c : Thread nD τ).loc main_arg0) (ix1 t)
  E r e := m ((c : Thread nD τ).loc main_arg1) (ix2 r e)
  w1 r q := m ((c : Thread nD τ).loc main_arg2) (ix2 r q)
  b1 q := m ((c : Thread nD τ).loc main_arg3) (ix1 q)
  w2 q v := m ((c : Thread nD τ).loc main_arg4) (ix2 q v)
  b2 v := m ((c : Thread nD τ).loc main_arg5) (ix1 v)

/-- The hidden vector is the mathematics' hidden vector. -/
theorem hidV_apply (c : Dev nD) (q : Fin 100) : hidV m c (ix2 0 q) = hidden (args m c) q := by
  unfold hidV
  rw [hid_apply, blk2_apply]
  refine congrArg Ideal.tanh (congrArg₂ (fun a b : EReal => a + b) (Finset.sum_congr rfl fun t _ => Finset.sum_congr rfl fun e _ => ?_) rfl)
  refine congrArg₂ (fun a b : EReal => a * b) ?_ (blk1_apply m c t0_0 t e q (place t e) rfl)
  rw [V_main_arg1]
  unfold gath row
  refine congrArg (m ((c : Thread nD τ).loc main_arg1)) (congrArg₂ ix2 (Fin.ext ?_) rfl)
  show (show BitVec 32 from iblk m c 0 t0_0 (ix1 t)).toNat % 100000 = _
  rw [blk0_apply]
  rfl

section Block

variable (c : Dev nD) (t : Fin cfg0.N) (ht : t.val < 8) (d3 d4 : S100x6400.Idx → Elt Ideal .f32) (d5 : S1x12800.Idx → Elt Ideal .f32)

include ht in
theorem point_coord : (grid0.coords t 1).val = t.val := by rw [coords_one]; omega

include ht in
theorem col_left (k : Fin 6400) (h : 12800 * t.val + k.val < 100000) :
    k0_pay6 (hidV m c) (X3 m c t d3) (biasL (X5 m c t d5)) (ix2 0 k) = logit (args m c) ⟨12800 * t.val + k.val, h⟩ := by
  rw [left_apply]
  refine congrArg₂ (fun a b : EReal => a + b) (Finset.sum_congr rfl fun q _ => ?_) ?_
  · rw [hidV_apply, X3_apply m c t ht d3 q k h]
    rfl
  · exact X5_apply m c t ht d5 ⟨k.val, _⟩ h

include ht in
theorem col_right (k : Fin 6400) (h : 12800 * t.val + 6400 + k.val < 100000) :
    k0_pay7 (hidV m c) (X4 m c t d4) (biasR (X5 m c t d5)) (ix2 0 k) = logit (args m c) ⟨12800 * t.val + 6400 + k.val, h⟩ := by
  rw [right_apply]
  refine congrArg₂ (fun a b : EReal => a + b) (Finset.sum_congr rfl fun q _ => ?_) ?_
  · rw [hidV_apply, X4_apply m c t ht d4 q k h]
    rfl
  · refine (X5_apply m c t ht d5 ⟨6400 + k.val, _⟩ (by show 12800 * t.val + (6400 + k.val) < 100000; omega)).trans ?_
    refine congrArg (m ((c : Thread nD τ).loc main_arg5)) (congrArg ix1 (Fin.ext ?_))
    show 12800 * t.val + (6400 + k.val) = 12800 * t.val + 6400 + k.val
    omega

include ht in
theorem masked_left (k : Fin 6400) :
    k0_pay9 (jw (grid0.coords t)) (hidV m c) (X3 m c t d3) (biasL (X5 m c t d5)) (ix2 0 k) = lm (args m c) (12800 * t.val + k.val) := by
  unfold jw
  rw [point_coord t ht, left_masked t.val ht]
  split
  · next h => exact (col_left m c t ht d3 d5 k h).trans (lm_of_lt _ h).symm
  · next h => exact (lm_of_le _ (by omega)).symm

include ht in
theorem masked_right (k : Fin 6400) :
    k0_pay10 (jw (grid0.coords t)) (hidV m c) (X4 m c t d4) (biasR (X5 m c t d5)) (ix2 0 k)
      = lm (args m c) (12800 * t.val + 6400 + k.val) := by
  unfold jw
  rw [point_coord t ht, right_masked t.val ht]
  split
  · next h => exact (col_right m c t ht d4 d5 k h).trans (lm_of_lt _ h).symm
  · next h => exact (lm_of_le _ (by omega)).symm

include ht in
/-- The running maximum after the block. -/
theorem step_max : newM (grid0.coords t) (hidV m c) (X3 m c t d3) (X4 m c t d4) (X5 m c t d5) (mx (lm (args m c)) (12800 * t.val))
    = mx (lm (args m c)) (12800 * (t.val + 1)) := by
  rw [newM_apply]
  simp only [masked_left m c t ht d3 d5, masked_right m c t ht d4 d5]
  refine (mx_block (lm (args m c)) (12800 * t.val) 6400).trans (congrArg (mx _) ?_)
  omega

include ht in
/-- The running sum after the block. -/
theorem step_sum (hl : ∀ n, lm (args m c) n ≠ ⊤) :
    newS (grid0.coords t) (hidV m c) (X3 m c t d3) (X4 m c t d4) (X5 m c t d5) (mx (lm (args m c)) (12800 * t.val))
        (sm (lm (args m c)) (mx (lm (args m c)) (12800 * t.val)) (12800 * t.val))
      = sm (lm (args m c)) (mx (lm (args m c)) (12800 * (t.val + 1))) (12800 * (t.val + 1)) := by
  rw [newS_apply, step_max m c t ht d3 d4 d5]
  simp only [masked_left m c t ht d3 d5, masked_right m c t ht d4 d5]
  rw [show 12800 * (t.val + 1) = 12800 * t.val + 6400 + 6400 by omega]
  exact sm_block (lm (args m c)) hl (12800 * t.val) 6400

include ht in
/-- The logits after the block: its row is filled, the others are as they were. -/
theorem step_logits (L : S8x12800.Idx → Elt Ideal .f32)
    (hL : ∀ (r : Fin 8) (k : Fin 12800) (h : 12800 * r.val + k.val < 100000), r.val < t.val → L (ix2 r k) = logit (args m c) ⟨_, h⟩)
    (r : Fin 8) (k : Fin 12800) (h : 12800 * r.val + k.val < 100000) (hr : r.val < t.val + 1) :
    newL (grid0.coords t) (hidV m c) (X3 m c t d3) (X4 m c t d4) (X5 m c t d5) L (ix2 r k) = logit (args m c) ⟨_, h⟩ := by
  have hk := k.isLt
  unfold newL
  show (if r.val = (grid0.coords t 1).val then _ else _) = _
  rw [point_coord t ht]
  by_cases e : r.val = t.val
  · rw [if_pos e]
    by_cases h6 : k.val < 6400
    · refine (dif_pos h6).trans ((col_left m c t ht d3 d5 ⟨k.val, h6⟩ (by show 12800 * t.val + k.val < 100000; omega)).trans ?_)
      refine congrArg (logit (args m c)) (Fin.ext ?_)
      show 12800 * t.val + k.val = 12800 * r.val + k.val
      omega
    · refine (dif_neg h6).trans ((col_right m c t ht d4 d5 ⟨k.val - 6400, by omega⟩
        (by show 12800 * t.val + 6400 + (k.val - 6400) < 100000; omega)).trans ?_)
      refine congrArg (logit (args m c)) (Fin.ext ?_)
      show 12800 * t.val + 6400 + (k.val - 6400) = 12800 * r.val + k.val
      omega
  · rw [if_neg e]
    exact hL r k h (by omega)

end Block

/-- What the scratch buffers hold before point `p`. -/
def Holds (c : Dev nD) (p : ℕ) (H : S1x100.Idx → Elt Ideal .f32) (L : S8x12800.Idx → Elt Ideal .f32) (S : S2.Idx → Elt Ideal .f32) : Prop :=
  (0 < p → H = hidV m c)
  ∧ (∀ (r : Fin 8) (k : Fin 12800) (h : 12800 * r.val + k.val < 100000), r.val < p → L (ix2 r k) = logit (args m c) ⟨_, h⟩)
  ∧ (0 < p → S (ix1 0) = mx (lm (args m c)) (12800 * min p 8)
    ∧ S (ix1 1) = sm (lm (args m c)) (mx (lm (args m c)) (12800 * min p 8)) (12800 * min p 8))

/-- One block keeps it. -/
theorem step (c : Dev nD) (hl : ∀ n, lm (args m c) n ≠ ⊤) (t : Fin cfg0.N) (ht : t.val < 8) (L S d3 d4 d5)
    (hL : ∀ (r : Fin 8) (k : Fin 12800) (h : 12800 * r.val + k.val < 100000), r.val < t.val → L (ix2 r k) = logit (args m c) ⟨_, h⟩)
    (h0 : S (ix1 0) = mx (lm (args m c)) (12800 * t.val))
    (h1 : S (ix1 1) = sm (lm (args m c)) (mx (lm (args m c)) (12800 * t.val)) (12800 * t.val)) :
    Holds m c (t.val + 1) (hidV m c) (newL (grid0.coords t) (hidV m c) (X3 m c t d3) (X4 m c t d4) (X5 m c t d5) L)
      (newMS (grid0.coords t) (hidV m c) (X3 m c t d3) (X4 m c t d4) (X5 m c t d5) S) := by
  refine ⟨fun _ => rfl, step_logits m c t ht d3 d4 d5 L hL, fun _ => ?_⟩
  rw [show min (t.val + 1) 8 = t.val + 1 by omega]
  unfold newMS
  rw [h0, h1]
  exact ⟨step_max m c t ht d3 d4 d5, step_sum m c t ht d3 d4 d5 hl⟩

/-- The points keep it. -/
theorem holds_keeps (c : Dev nD) (hl : ∀ n, lm (args m c) n ≠ ⊤) : Keeps m c (Holds m c) where
  start H L S := ⟨fun h => absurd h (lt_irrefl _), fun r _ _ h => absurd h (Nat.not_lt_zero _), fun h => absurd h (lt_irrefl _)⟩
  init L d3 d4 d5 := step m c hl t0_0 (by decide) L ms0 d3 d4 d5 (fun r _ _ h => absurd h (Nat.not_lt_zero _))
    (by
      show Ideal.ofBits .f32 0xFF800000#32 = mx (lm (args m c)) 0
      rw [neg_inf]; rfl)
    (by
      show Ideal.ofBits .f32 0x00000000#32 = sm (lm (args m c)) _ 0
      rw [Ideal.ofBits_zero_f32]; rfl)
  pass0 t H L S d3 d4 d5 h0 h8 hI := by
    obtain ⟨hH, hL, hS⟩ := hI
    obtain rfl := hH h0
    have hS := hS h0
    rw [show min t.val 8 = t.val by omega] at hS
    exact step m c hl t h8 L S d3 d4 d5 hL hS.1 hS.2
  pass1 t H L S h8 hI := by
    obtain ⟨hH, hL, hS⟩ := hI
    refine ⟨fun _ => hH (by omega), fun r k h _ => hL r k h (by have := r.isLt; omega), fun _ => ?_⟩
    have hS := hS (by omega)
    rw [show min t.val 8 = 8 by omega] at hS
    rw [show min (t.val + 1) 8 = 8 by omega]
    exact hS

/-- The row a point of the second pass writes, inside the vocabulary. -/
theorem outRow_apply (c : Dev nD) (t : Fin cfg0.N) (h8 : 8 ≤ t.val) (H L S) (hI : Holds m c t.val H L S) (k : Fin 12800)
    (h : 12800 * (t.val - 8) + k.val < 100000) :
    outRow t L S (ix2 0 k) = result (args m c) ⟨12800 * (t.val - 8) + k.val, h⟩ := by
  obtain ⟨hH, hL, hS⟩ := hI
  have hS := hS (by omega)
  have ht : t.val < 16 := t.isLt
  rw [show min t.val 8 = 8 by omega,
    show mx (lm (args m c)) (12800 * 8) = top (args m c) from mx_tail _ (by decide) fun i hi => lm_of_le _ hi,
    sm_tail (lm (args m c)) _ (show 100000 ≤ 12800 * 8 by decide) fun i hi => lm_of_le _ hi] at hS
  have hc : (grid0.coords t 1).val = t.val - 8 := by rw [coords_one]; omega
  have e : L (ix2 (grid0.coords t 1) k) = logit (args m c) ⟨12800 * (t.val - 8) + k.val, h⟩ :=
    (hL (grid0.coords t 1) k (by rw [hc]; exact h) (by rw [hc]; omega)).trans
      (congrArg (logit (args m c)) (Fin.ext (congrArg (fun n => 12800 * n + k.val) hc)))
  unfold outRow result
  refine (row_apply _ _ _ _).trans (congrArg₂ (fun a b : EReal => a - b) e ?_)
  rw [hS.1, hS.2]

end Cert.KernelIdeal.Value

end
-- ==== Proof.Value.Tracked.lean ====
/-
  The walk with the result tracked: the points of the first pass leave the result's buffer alone, those of the second
  pass write a row of it, and the rows cover the result.
-/
module

public import proofs.«01_k».proof.Proof.KernelIdeal.Quiet

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligationLoose RDat)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

variable {Inv : Dev nD → ℕ → (S1x100.Idx → Elt F .f32) → (S8x12800.Idx → Elt F .f32) → (S2.Idx → Elt F .f32) → Prop}
  (out : (c : Dev nD) → Fin cfg0.N → S1x12800.Idx → Elt F .f32)

/-- The result's buffer as a point may leave it. -/
abbrev left6 (c : Dev nD) (t : Fin cfg0.N) : sProp 𝕄 := (dats m Inv out 0 c).leaves 6 t

/-- A point of the first pass leaves it as found. -/
theorem left6_idle (c : Dev nD) (t : Fin cfg0.N) (h8 : t.val < 8) :
    iprop(∃ d, owns (c : Thread nD τ) (win0_6.stage (cfg0.slots t 6)) fullShare ((dats m Inv out 0 c).before 6 t d))
      ⊢ left6 m (Inv := Inv) out c t := by
  unfold left6 Dat.leaves
  rw [idle6, flush6, decide_eq_true h8, decide_eq_false (by omega : ¬ 8 ≤ t.val)]

/-- A point of the second pass leaves its row, up to the part past the result's end. -/
theorem left6_row (c : Dev nD) (t : Fin cfg0.N) (h8 : 8 ≤ t.val) (X : S1x12800.Idx → Elt F .f32)
    (hX : win0_6.cut (grid0.coords t) X = win0_6.cut (grid0.coords t) (out c t)) :
    owns (c : Thread nD τ) (win0_6.stage (cfg0.slots t 6)) fullShare X ⊢ left6 m (Inv := Inv) out c t := by
  have e : X = win0_6.fill (grid0.coords t) X (win0_6.cut (grid0.coords t) (out c t)) := (win0_6.fill_congr_cut _ hX).symm
  unfold left6 Dat.leaves
  rw [idle6, decide_eq_false (by omega : ¬ t.val < 8)]
  show owns (c : Thread nD τ) (win0_6.stage (cfg0.slots t 6)) fullShare X
    ⊢ iprop(∃ d, owns (c : Thread nD τ) (win0_6.stage (cfg0.slots t 6)) fullShare
        (win0_6.fill (grid0.coords t) d (win0_6.cut (grid0.coords t) (out c t))))
  iintro H
  iexists X
  rw [← e]
  iexact H

/-- What the rows written are, from the description of the scratch buffers. -/
def Rows (c : Dev nD) : Prop := ∀ (t : Fin cfg0.N) (H L S), 8 ≤ t.val → Inv c t.val H L S →
  win0_6.cut (grid0.coords t) (outRow t L S) = win0_6.cut (grid0.coords t) (out c t)

theorem tracked_point (c : Dev nD) (hk : Keeps m c (Inv c)) (hr : Rows (Inv := Inv) out c)
    (hrow : ∀ y, (show BitVec 32 from V m c main_arg0 y).toNat < 100000) (t : Fin cfg0.N) (d3 d4 d5) :
    iprop(Phi m Inv c t.val ∗ owes0 m Inv out c t.castSucc ∗ ins m c t d3 d4 d5
        ∗ (∃ d, owns (c : Thread nD τ) (win0_6.stage (cfg0.slots t 6)) fullShare ((dats m Inv out 0 c).before 6 t d)))
      ⊢ wp frame (wpE (defs₀ (F := F)) Variants.none c none) Set.univ (bodyAt0 t) fun _ =>
        iprop(Phi m Inv c (t.val + 1) ∗ owes0 m Inv out c t.succ ∗ ins m c t d3 d4 d5 ∗ left6 m (Inv := Inv) out c t) := by
  by_cases h8 : t.val < 8
  · by_cases h0 : t.val = 0
    · obtain rfl : t = t0_0 := Fin.ext h0
      iintro ⟨HP, HW, HI, H6⟩
      iapply (point_init m out c hk hrow d3 d4 d5 _)
      isplitl [HP]; · iexact HP
      isplitl [HW]; · iexact HW
      isplitl [HI]; · iexact HI
      iintro ⟨HP, HW, HI⟩
      isplitl [HP]; · iexact HP
      isplitl [HW]; · iexact HW
      isplitl [HI]; · iexact HI
      iapply (left6_idle m out c t0_0 h8)
      iexact H6
    · iintro ⟨HP, HW, HI, H6⟩
      iapply (point_pass0 m out c hk t (by omega) h8 d3 d4 d5 _)
      isplitl [HP]; · iexact HP
      isplitl [HW]; · iexact HW
      isplitl [HI]; · iexact HI
      iintro ⟨HP, HW, HI⟩
      isplitl [HP]; · iexact HP
      isplitl [HW]; · iexact HW
      isplitl [HI]; · iexact HI
      iapply (left6_idle m out c t h8)
      iexact H6
  · iintro ⟨HP, HW, HI, ⟨%d6, H6⟩⟩
    iapply (point_pass1 m out c hk t (by omega) d3 d4 d5 _)
    isplitl [HP]; · iexact HP
    isplitl [HW]; · iexact HW
    isplitl [HI]; · iexact HI
    isplitl [H6]; · iexists _; iexact H6
    iintro %H %L %S ⟨%hI, HP, HW, HI, H6⟩
    isplitl [HP]; · iexact HP
    isplitl [HW]; · iexact HW
    isplitl [HI]; · iexact HI
    iapply (left6_row m out c t (by omega) _ (hr t H L S (by omega) hI))
    iexact H6

theorem tracked_sound (c : Dev nD) (hk : Keeps m c (Inv c)) (hr : Rows (Inv := Inv) out c)
    (hrow : ∀ y, (show BitVec 32 from V m c main_arg0 y).toNat < 100000) (t : Fin cfg0.N) :
    given m (Inv := Inv) out c t
        iprop(∃ d, owns (c : Thread nD τ) (win0_6.stage (cfg0.slots t 6)) fullShare ((dats m Inv out 0 c).before 6 t d))
      ⊢ wp frame (wpE (defs₀ (F := F)) Variants.none c none) Set.univ (bodyAt0 t) fun _ =>
        back m (Inv := Inv) out c t (left6 m (Inv := Inv) out c t) := by
  refine (given_elim m out c t _).trans ?_
  iintro ⟨%d3, %d4, %d5, H⟩
  iapply ((tracked_point m out c hk hr hrow t d3 d4 d5).trans (wp_mono _ _ _ fun _ => back_intro m out c t d3 d4 d5 _))
  iexact H

theorem tracked_obligation (c : Dev nD) (hk : Keeps m c (Inv c)) (hr : Rows (Inv := Inv) out c)
    (hrow : ∀ y, (show BitVec 32 from V m c main_arg0 y).toNat < 100000) :
    BodyObligationLoose (dats m Inv out 0 c) (defs₀ (F := F)) Variants.none () Set.univ := fun t => by
  rw [bigSep_W0, bigSep_W0, defs₀_row]
  exact triple_restated (tracked_sound m out c hk hr hrow t) rfl .rfl fun _ => .rfl

set_option backward.isDefEq.respectTransparency.types false in
/-- Every run ends with the result at what the rows written make of it, and the arguments as they were. -/
theorem tracked (hk : ∀ c, Keeps m c (Inv c)) (hr : ∀ c, Rows (Inv := Inv) out c)
    (hrow : ∀ (c : Dev nD) y, (show BitVec 32 from m ((c : Thread nD τ).loc main_arg0) y).toNat < 100000) :
    θ_run defs (onTc (τ := τ) (main (F := F))) ⟨m, fun _ => 0, ρ⟩ (fun r => ∀ c : Dev nD,
      r.2.mem ((c.tc : Thread nD τ).loc main_v3) = (dats m Inv out 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_frame_dma_shared cfgs (dats m Inv out) 0 launch₀0 osem0 defs₀ Variants.none
    ownSemFacts0 H0 H0_sub m ρ main
    (fun c => tracked_obligation m out c (hk c) (hr c) (fun y => by rw [V_main_arg0]; exact hrow c y))
    (fun _ _ _ => rfl) (fun _ _ => rfl) (V m) (hmainD m Variants.none) (fun _ _ => rfl)
    (fun c => Phi_in m c (hk c)) (fun c => Phi_out m c _) _
    (fun r h c =>
      ⟨(h.1 c).1 6,
       ((h.1 c).1 0).trans (((dats m Inv out 0 c).arrAt_in 0 rfl _).trans (V_main_arg0 m c)),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).1 4).trans (((dats m Inv out 0 c).arrAt_in 4 rfl _).trans (V_main_arg4 m c)),
       ((h.1 c).2 main_arg5 (Pipeline.mem_restRefs_of main_arg5 (by decide) (by decide))).trans (V_main_arg5 m c)⟩)

end Cert.KernelIdeal.Hand

end
-- ==== Proof.Value.Result.lean ====
/-
  What the result holds after every run of the kernel over the extended reals: the logarithm of the softmax of the
  logits, at every word of the vocabulary.
-/
module

public import proofs.«01_k».proof.Proof.Value.Keep
public import proofs.«01_k».proof.Proof.Value.Tracked

@[expose] public section

set_option maxRecDepth 16384

noncomputable section

namespace Cert.KernelIdeal.Value

open Cert.KernelIdeal Cert.KernelIdeal.Gen Cert.KernelIdeal.Hand Cert.Softmax Cert.Model
open Idealize.ShloMosaic Idealize.ShloMosaic.ValueIdx Idealize.ShloMosaic.TcCoe Idealize.SL.Sem

variable (m : (ℓ : Loc nD τ sig) → Buf (Elt Ideal) ℓ)

/-- The row a point of the second pass leaves in the result's buffer, nothing past the vocabulary. -/
def rowOf (c : Dev nD) (t : Fin cfg0.N) : S1x12800.Idx → Elt Ideal .f32 := fun y =>
  if h : 12800 * (t.val - 8) + (y 1).val < 100000 then result (args m c) ⟨_, h⟩ else (0 : EReal)

/-- The whole result. -/
def whole (c : Dev nD) : S1x100000.Idx → Elt Ideal .f32 := fun i => result (args m c) (i 1)

theorem off6 (t : Fin cfg0.N) (h8 : 8 ≤ t.val) : cc0_transform_7 (grid0.coords t) 1 = t.val - 8 := by rw [index6 t h8]; rfl
theorem off6' (t : Fin cfg0.N) (h8 : 8 ≤ t.val) : cc0_transform_7 (grid0.coords t) 0 = 0 := by rw [index6 t h8]; rfl

/-- Where an entry of a point's row lies in the result. -/
theorem place6 (t : Fin cfg0.N) (h8 : 8 ≤ t.val) (j : (win0_6.xblock (grid0.coords t)).Idx) :
    ((win0_6.rect t).emb j 1).val = 12800 * (t.val - 8) + (j 1).val := by
  refine (win0_6.rect_emb_val t j 1).trans ?_
  show cc0_transform_7 (grid0.coords t) 1 * 12800 + (j 1).val = _
  rw [off6 t h8]; omega

theorem inside6 (t : Fin cfg0.N) (h8 : 8 ≤ t.val) (j : (win0_6.xblock (grid0.coords t)).Idx) :
    12800 * (t.val - 8) + (j 1).val < 100000 := by
  rw [← place6 t h8 j]
  exact ((win0_6.rect t).emb j 1).isLt

/-- The rows written are those. -/
theorem rows (c : Dev nD) : Rows (Inv := Holds m) (rowOf m) c := by
  intro t H L S h8 hI
  funext j
  have h := inside6 t h8 j
  have hj : (j 1).val < 12800 := Nat.lt_of_lt_of_le (j 1).isLt (win0_6.xsize_le (grid0.coords t) 1)
  have e : win0_6.xinj (grid0.coords t) j = (ix2 0 ⟨(j 1).val, hj⟩ : S1x12800.Idx) := by
    funext a
    apply Fin.ext
    fin_cases a
    · have h0 : (j 0).val < 1 := Nat.lt_of_lt_of_le (j 0).isLt (win0_6.xsize_le (grid0.coords t) 0)
      show (j 0).val = 0
      omega
    · rfl
  show outRow t L S (win0_6.xinj (grid0.coords t) j) = rowOf m c t (win0_6.xinj (grid0.coords t) j)
  rw [e, outRow_apply m c t h8 H L S hI ⟨(j 1).val, hj⟩ h]
  have e' : rowOf m c t (ix2 0 ⟨(j 1).val, hj⟩) = result (args m c) ⟨12800 * (t.val - 8) + (j 1).val, h⟩ := dif_pos h
  exact e'.symm

/-- The result after the run. -/
theorem array (c : Dev nD) : (dats m (Holds m) (rowOf m) 0 c).arrAt 6 cfg0.N = whole m c := by
  refine (dats m (Holds m) (rowOf m) 0 c).arrAt_eq_of_cover 6 (whole m c) (fun t hf => ?_) (fun i => ?_)
  · have h8 : 8 ≤ t.val := by rw [flush6] at hf; exact of_decide_eq_true hf
    funext j
    have h := inside6 t h8 j
    show rowOf m c t (win0_6.xinj (grid0.coords t) j) = whole m c ((win0_6.rect t).emb j)
    refine (dif_pos h).trans ?_
    exact congrArg (result (args m c)) (Fin.ext (place6 t h8 j).symm)
  · have hi : (i 1).val < 100000 := (i 1).isLt
    have hi0 : (i 0).val < 1 := (i 0).isLt
    let t : Fin cfg0.N := ⟨8 + (i 1).val / 12800, by show 8 + (i 1).val / 12800 < 16; omega⟩
    have h8 : 8 ≤ t.val := Nat.le_add_right _ _
    refine ⟨t, by rw [flush6]; exact decide_eq_true h8, ?_⟩
    have h0 : 0 < win0_6.xsize (grid0.coords t) 0 := by
      show 0 < (Pipeline.Clip.of (cc0_transform_7 (grid0.coords t) 0) 1 1).extent 1
      exact lt_extent (by decide) (by rw [off6' t h8]; decide)
    have h1 : (i 1).val % 12800 < win0_6.xsize (grid0.coords t) 1 := by
      show (i 1).val % 12800 < (Pipeline.Clip.of (cc0_transform_7 (grid0.coords t) 1) 12800 100000).extent 12800
      refine lt_extent (Nat.mod_lt _ (by decide)) ?_
      rw [off6 t h8]
      show (8 + (i 1).val / 12800 - 8) * 12800 + (i 1).val % 12800 < 100000
      omega
    let j : (win0_6.xblock (grid0.coords t)).Idx := Fin.cons ⟨0, h0⟩ (Fin.cons ⟨(i 1).val % 12800, h1⟩ finZeroElim)
    have e : (win0_6.rect t).emb j = i := by
      funext a
      apply Fin.ext
      fin_cases a
      · refine (win0_6.rect_emb_val t j 0).trans ?_
        show cc0_transform_7 (grid0.coords t) 0 * 1 + 0 = (i 0).val
        rw [off6' t h8]; omega
      · refine (place6 t h8 j).trans ?_
        show 12800 * (8 + (i 1).val / 12800 - 8) + (i 1).val % 12800 = (i 1).val
        omega
    have hm := (win0_6.blk t).view.emb_mem_set j
    rwa [show (win0_6.blk t).view.emb j = i from e] at hm

/-- Every run of the kernel ends with the result at the logarithm of the softmax, and the arguments as they were. -/
theorem kernel_run (ρ : Dev nD → PrngReg) (hl : ∀ c n, lm (args m c) n ≠ ⊤)
    (hrow : ∀ (c : Dev nD) y, (show BitVec 32 from m ((c : Thread nD τ).loc main_arg0) y).toNat < 100000) :
    θ_run defs (onTc (τ := τ) (main (F := Ideal))) ⟨m, fun _ => 0, ρ⟩ (fun r => ∀ c : Dev nD,
      r.2.mem ((c.tc : Thread nD τ).loc main_v3) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (array m c), (h c).2⟩)
    (tracked m ρ (rowOf m) (fun c => holds_keeps m c (hl c)) (rows m) hrow)

end Cert.KernelIdeal.Value

end
-- ==== Proof.Value.Reference.lean ====
/-
  What the reference computes, read at an index: the rows it gathers, its logits, and its log-softmax, which subtracts
  the largest logit first and the logarithm of the sum afterwards.
-/
module

public import proofs.«01_k».proof.Proof.Gen.ReferenceIdeal.Run
public import proofs.«01_k».proof.Proof.Value.Model
public import Idealize.ShloMosaic.Lib.StackMember
public import Idealize.ShloMosaic.Lib.Routing.Ops

@[expose] public section

set_option maxRecDepth 16384

noncomputable section

namespace Cert.ReferenceIdeal.Value

open Cert.ReferenceIdeal Cert.ReferenceIdeal.Gen Cert.Softmax Cert.Model
open Idealize.ShloMosaic Idealize.ShloMosaic.ValueIdx Idealize.ShloMosaic.TcCoe Idealize.SL.Sem

/-! ## The rows gathered -/

/-- The words of the context as the gather takes them: a negative one counts from the end of the table. -/
def idx (x : Vec Ideal S4 .i32) : Vec Ideal S4x1 .i32 :=
  broadcastInDim S4x1 ![0] bcast_S4_S4x1_0 (select (cmpi .slt x (broadcastInDim S4 ![] bcast_S_S4 (constantI S_ 32 0#32)))
    (addi x (broadcastInDim S4 ![] bcast_S_S4 (constantI S_ 32 100000#32))) x)

/-- Which of the words name a row of the table. -/
def inTable (j : Vec Ideal S4x1 .i32) : Vec Ideal S4 .i1 :=
  Host.reduce IntOp.andi (andi (cmpi .sge j (broadcastInDim S4x1 ![] bcast_S_S4x1 (constantI S_ 32 0#32)))
    (cmpi .sle j (broadcastInDim S4x1 ![0, 1] bcast_S1x1_S4x1_0_1 (broadcastInDim S1x1 ![1] bcast_S1_S1x1_1 (constantI S1 32 99999#32)))))
    (constantI S_ 1 1#1) reducesTo_S4x1_S4_d1 h_S_

/-- The embeddings of the context. -/
def emb (x : Vec Ideal S4 .i32) (E : Vec Ideal S100000x30 .f32) : Vec Ideal S4x30 .f32 :=
  select (broadcastInDim S4x30 ![0] bcast_S4_S4x30_0 (inTable (idx x)))
    (Host.gather gather_S100000x30_S4x1_S4x30_1_0_n_n_0_1_130 E (idx x))
    (broadcastInDim S4x30 ![] bcast_S_S4x30 (constant (F := Ideal) S_ .f32 0x7FC00000#32))

/-- The three comparisons of a word that names a row. -/
theorem word_compare (w : BitVec 32) (h : w.toNat < 100000) :
    IntOp.cmpi .slt w 0#32 = 0#1 ∧ IntOp.cmpi .sge w 0#32 = 1#1 ∧ IntOp.cmpi .sle w 99999#32 = 1#1 := by
  have e : w.toInt = w.toNat := BitVec.toInt_eq_toNat_of_lt (by omega)
  have e0 : (0#32).toInt = 0 := by decide
  have e1 : (99999#32).toInt = 99999 := by decide
  refine ⟨?_, ?_, ?_⟩
  · show BitVec.ofBool (BitVec.slt _ _) = _
    rw [BitVec.slt, e, e0, decide_eq_false (by omega)]; rfl
  · show BitVec.ofBool (BitVec.sle _ _) = _
    rw [BitVec.sle, e, e0, decide_eq_true (by omega)]; rfl
  · show BitVec.ofBool (BitVec.sle _ _) = _
    rw [BitVec.sle, e, e1, decide_eq_true (by omega)]; rfl

/-- A word that names a row stays as it is. -/
theorem idx_apply (x : Vec Ideal S4 .i32) (hx : ∀ t, (show BitVec 32 from x t).toNat < 100000) (t : Fin 4) (u : Fin 1) :
    idx x (ix2 t u) = x (ix1 t) := by
  refine (broadcastInDim_apply ![0] bcast_S4_S4x1_0 _ _ (ix1 t) fun a => ?_).trans ?_
  · fin_cases a; rfl
  · show Scalar.select (IntOp.cmpi .slt (x (ix1 t)) 0#32) _ _ = _
    rw [(word_compare _ (hx (ix1 t))).1]
    rfl

/-- Ones alone conjoin to one. -/
theorem fold_ones {ι : Type} (s : Finset ι) (f : ι → BitVec 1) (hf : ∀ i, f i = 1#1) : s.fold IntOp.andi 1#1 f = 1#1 := by
  classical
  induction s using Finset.induction_on with
  | empty => rfl
  | insert a s ha ih => rw [Finset.fold_insert ha, ih, hf]; rfl

theorem inTable_apply (x : Vec Ideal S4 .i32) (hx : ∀ t, (show BitVec 32 from x t).toNat < 100000) (t : S4.Idx) :
    inTable (idx x) t = 1#1 := by
  unfold inTable
  rw [Host.reduce_eq_fold]
  refine fold_ones _ _ fun i => ?_
  have e : idx x i = x (ix1 (i 0)) := by
    have e' := eq_ix2 i
    rw [e']
    exact idx_apply x hx (i 0) (i 1)
  show IntOp.andi (IntOp.cmpi .sge (idx x i) 0#32) (IntOp.cmpi .sle (idx x i) 99999#32) = 1#1
  have h := word_compare _ (hx (ix1 (i 0)))
  rw [e, h.2.1, h.2.2]
  rfl

/-- The gathered row is the table's row. -/
theorem emb_apply (x : Vec Ideal S4 .i32) (hx : ∀ t, (show BitVec 32 from x t).toNat < 100000) (E : Vec Ideal S100000x30 .f32)
    (t : Fin 4) (e : Fin 30) :
    emb x E (ix2 t e) = E (ix2 ⟨(show BitVec 32 from x (ix1 t)).toNat % 100000, Nat.mod_lt _ (by decide)⟩ e) := by
  unfold emb
  have hm : broadcastInDim S4x30 ![0] bcast_S4_S4x30_0 (inTable (idx x)) (ix2 t e) = 1#1 := inTable_apply x hx _
  show Scalar.select (broadcastInDim S4x30 ![0] bcast_S4_S4x30_0 (inTable (idx x)) (ix2 t e)) _ _ = _
  rw [hm]
  show Host.gather gather_S100000x30_S4x1_S4x30_1_0_n_n_0_1_130 E (idx x) (ix2 t e) = _
  refine Routing.gather_row gather_S100000x30_S4x1_S4x30_1_0_n_n_0_1_130 rfl rfl rfl rfl rfl E (idx x) t e _ ?_ (by decide)
  rw [idx_apply x hx]
  show _ = BitVec.ofNat 32 (_ % 100000)
  rw [Nat.mod_eq_of_lt (hx (ix1 t)), BitVec.ofNat_toNat]
  rfl

/-! ## The logits -/

/-- The hidden vector, as the reference takes it from the embeddings. -/
def hid (g : Vec Ideal S4x30 .f32) (w : Vec Ideal S120x100 .f32) (b : Vec Ideal S100 .f32) : Vec Ideal S1x100 .f32 :=
  Host.tanh (F := Ideal) (φ := .f32) (addf (Host.dotGeneral (F := Ideal) (φ₁ := .f32) (φ₂ := .f32) dot_S1x120_S120x100_S1x100_1_0_0_1_n_n none (shapeCast S1x120 g shapeCasts_S4x30_S1x120) w)
    (broadcastInDim S1x100 ![1] bcast_S100_S1x100_1 b))

/-- The logits. -/
def logits (h : Vec Ideal S1x100 .f32) (w : Vec Ideal S100x100000 .f32) (b : Vec Ideal S100000 .f32) : Vec Ideal S1x100000 .f32 :=
  addf (F := Ideal) (φ := .f32) (Host.dotGeneral (F := Ideal) (φ₁ := .f32) (φ₂ := .f32) dot_S1x100_S100x100000_S1x100000_1_0_0_1_n_n none h w)
    (broadcastInDim S1x100000 ![1] bcast_S100000_S1x100000_1 b)

/-- A sum over the inputs of the hidden layer is a sum over the words and their entries. -/
theorem sum_place (f : Fin 120 → EReal) : ∑ r, f r = ∑ t : Fin 4, ∑ e : Fin 30, f (place t e) := by
  rw [← Fintype.sum_prod_type' (fun (t : Fin 4) (e : Fin 30) => f (place t e))]
  refine Finset.sum_nbij' (fun r => (⟨r.val / 30, by omega⟩, ⟨r.val % 30, by omega⟩)) (fun p => place p.1 p.2)
    (fun _ _ => Finset.mem_univ _) (fun _ _ => Finset.mem_univ _) (fun r _ => Fin.ext ?_) (fun p _ => Prod.ext (Fin.ext ?_) (Fin.ext ?_))
    (fun r _ => congrArg f (Fin.ext ?_))
  · show 30 * (r.val / 30) + r.val % 30 = r.val
    omega
  · show (30 * p.1.val + p.2.val) / 30 = p.1.val
    omega
  · show (30 * p.1.val + p.2.val) % 30 = p.2.val
    omega
  · show r.val = 30 * (r.val / 30) + r.val % 30
    omega

theorem hid_apply (g : Vec Ideal S4x30 .f32) (w : Vec Ideal S120x100 .f32) (b : Vec Ideal S100 .f32) (q : Fin 100) :
    hid g w b (ix2 0 q)
      = Ideal.tanh ((∑ t : Fin 4, ∑ e : Fin 30, (g (ix2 t e) : EReal) * w (ix2 (place t e) q)) + b (ix1 q)) := by
  refine congrArg Ideal.tanh (congrArg₂ (fun a b : EReal => a + b) ?_ ?_)
  · refine (StackMember.dotGeneral_plain_apply (m := 1) (k := 120) (n := 100) none (shapeCast S1x120 g shapeCasts_S4x30_S1x120) w 0 q).trans ?_
    refine (sum_place _).trans (Finset.sum_congr rfl fun t _ => Finset.sum_congr rfl fun e _ => ?_)
    refine congrArg₂ (fun a b : EReal => a * b) ?_ rfl
    refine shapeCast_apply g _ _ (ix2 t e) ((Shape.rowMajor_val_two _).trans (Eq.trans ?_ (Shape.rowMajor_val_two _).symm))
    show t.val * 30 + e.val = 0 * 120 + (30 * t.val + e.val)
    omega
  · refine broadcastInDim_apply ![1] bcast_S100_S1x100_1 b _ (ix1 q) fun a => ?_
    fin_cases a; rfl

theorem logits_apply (h : Vec Ideal S1x100 .f32) (w : Vec Ideal S100x100000 .f32) (b : Vec Ideal S100000 .f32) (v : Fin 100000) :
    logits h w b (ix2 0 v) = ((∑ q : Fin 100, (h (ix2 0 q) : EReal) * w (ix2 q v)) + b (ix1 v) : EReal) := by
  refine congrArg₂ (fun a b : EReal => a + b) ?_ ?_
  · exact StackMember.dotGeneral_plain_apply (m := 1) (k := 100) (n := 100000) none h w 0 v
  · refine broadcastInDim_apply ![1] bcast_S100000_S1x100000_1 b _ (ix1 v) fun a => ?_
    fin_cases a; rfl

/-! ## The log-softmax -/

/-- The largest logit, as the reference takes it. -/
def rowMax (l : Vec Ideal S1x100000 .f32) : Vec Ideal S1 .f32 :=
  maximumf (F := Ideal) (φ := .f32) (broadcastInDim S1 ![] bcast_S_S1 (constant (F := Ideal) S_ .f32 0xFF800000#32))
    (Host.reduce (FloatOps.maximumf (F := Ideal) (φ := .f32)) l (constant (F := Ideal) S_ .f32 0xFF800000#32) reducesTo_S1x100000_S1_d1 h_S_)

/-- The logits less the largest. -/
def lessMax (l : Vec Ideal S1x100000 .f32) : Vec Ideal S1x100000 .f32 :=
  subf (F := Ideal) (φ := .f32) l (broadcastInDim S1x100000 ![0, 1] bcast_S1x1_S1x100000_0_1 (broadcastInDim S1x1 ![0] bcast_S1_S1x1_0 (rowMax l)))

/-- The sum of their exponentials. -/
def rowSum (d : Vec Ideal S1x100000 .f32) : Vec Ideal S1 .f32 :=
  Host.reduceAdd (F := Ideal) (φ := .f32) (Host.exp (F := Ideal) (φ := .f32) d) (constant (F := Ideal) S_ .f32 0x00000000#32) reducesTo_S1x100000_S1_d1 h_S_

/-- The reference's result, from the logits. -/
def logSoftmax (l : Vec Ideal S1x100000 .f32) : Vec Ideal S1x100000 .f32 :=
  subf (F := Ideal) (φ := .f32) (lessMax l) (broadcastInDim S1x100000 ![0, 1] bcast_S1x1_S1x100000_0_1
    (Host.log (F := Ideal) (φ := .f32) (broadcastInDim S1x1 ![0] bcast_S1_S1x1_0 (rowSum (lessMax l)))))

theorem neg_inf : Ideal.ofBits .f32 0xFF800000#32 = ⊥ := by simp [Ideal.ofBits, Ideal.ieee]

/-- The positions of the row are its columns. -/
def columns : Fin 100000 ≃ S1x100000.Idx where
  toFun v := ix2 0 v
  invFun i := i 1
  left_inv _ := rfl
  right_inv i := by
    have e := eq_ix2 i
    have e0 : i 0 = (0 : Fin 1) := Subsingleton.elim (α := Fin 1) _ _
    rw [e0] at e
    exact e.symm

/-- Every position of the row is reduced into the one entry. -/
theorem all_columns (j : S1.Idx) :
    (Finset.univ.filter fun i : S1x100000.Idx => reducesTo_S1x100000_S1_d1.drop i = j) = Finset.univ :=
  Finset.filter_true_of_mem fun i _ => funext fun b => Fin.ext (by
    have h1 : (reducesTo_S1x100000_S1_d1.drop i b).val < S1.size b := (reducesTo_S1x100000_S1_d1.drop i b).isLt
    have h2 : (j b).val < S1.size b := (j b).isLt
    have h3 : ∀ b : Fin S1.rank, S1.size b = 1 := by decide
    have h3 := h3 b
    omega)

theorem rowMax_apply (l : Vec Ideal S1x100000 .f32) (j : S1.Idx) :
    rowMax l j = (Finset.univ.sup fun v : Fin 100000 => (l (ix2 0 v) : EReal)) := by
  have e : Host.reduce (FloatOps.maximumf (F := Ideal) (φ := .f32)) l (constant (F := Ideal) S_ .f32 0xFF800000#32)
      reducesTo_S1x100000_S1_d1 h_S_ j = (Finset.univ.sup fun v : Fin 100000 => (l (ix2 0 v) : EReal)) := by
    refine (Host.reduce_eq_fold (fun a b : EReal => max a b) l _ reducesTo_S1x100000_S1_d1 h_S_ j).trans ?_
    rw [all_columns]
    show Finset.fold max (Ideal.ofBits .f32 0xFF800000#32) _ _ = _
    rw [neg_inf]
    show (Finset.univ : Finset S1x100000.Idx).sup _ = _
    rw [← Finset.univ_map_equiv_to_embedding columns, Finset.sup_map]
    rfl
  show max (Ideal.ofBits .f32 0xFF800000#32) _ = _
  rw [neg_inf, e]
  exact max_eq_right bot_le

theorem lessMax_apply (l : Vec Ideal S1x100000 .f32) (i : S1x100000.Idx) :
    lessMax l i = ((l i : EReal) - (Finset.univ.sup fun v : Fin 100000 => (l (ix2 0 v) : EReal)) : EReal) :=
  congrArg₂ (fun a b : EReal => a - b) rfl (rowMax_apply l _)

theorem rowSum_apply (d : Vec Ideal S1x100000 .f32) (j : S1.Idx) :
    rowSum d j = (∑ v : Fin 100000, Ideal.exp (d (ix2 0 v)) : EReal) := by
  refine (Ideal.hostReduceAdd_total reducesTo_S1x100000_S1_d1 (by decide) _ _ j).trans ?_
  show Ideal.ofBits .f32 0x00000000#32 + _ = _
  rw [Ideal.ofBits_zero_f32, zero_add, ← Equiv.sum_comp columns]
  rfl

/-- The logarithm of the one entry, at every position of the row. -/
theorem spread_log (s : Vec Ideal S1 .f32) (i : S1x100000.Idx) :
    broadcastInDim S1x100000 ![0, 1] bcast_S1x1_S1x100000_0_1
      (Host.log (F := Ideal) (φ := .f32) (broadcastInDim S1x1 ![0] bcast_S1_S1x1_0 s)) i = Ideal.log (s (ix1 0)) := by
  refine (broadcastInDim_apply ![0, 1] bcast_S1x1_S1x100000_0_1 _ i (ix2 0 0) fun a => ?_).trans ?_
  · fin_cases a <;> rfl
  · refine congrArg Ideal.log (broadcastInDim_apply ![0] bcast_S1_S1x1_0 s _ (ix1 0) fun a => ?_)
    fin_cases a; rfl

/-- The reference's result, from the logits. -/
theorem logSoftmax_apply (l : Vec Ideal S1x100000 .f32) (i : S1x100000.Idx) :
    logSoftmax l i = ((l i : EReal) - (Finset.univ.sup fun v : Fin 100000 => (l (ix2 0 v) : EReal))
      - Ideal.log (∑ v : Fin 100000, Ideal.exp ((l (ix2 0 v) : EReal) - (Finset.univ.sup fun v : Fin 100000 => (l (ix2 0 v) : EReal)))) : EReal) := by
  have e (j : S1.Idx) : rowSum (lessMax l) j
      = (∑ v : Fin 100000, Ideal.exp ((l (ix2 0 v) : EReal) - (Finset.univ.sup fun v : Fin 100000 => (l (ix2 0 v) : EReal))) : EReal) := by
    rw [rowSum_apply]
    refine Finset.sum_congr rfl fun v _ => ?_
    rw [lessMax_apply]
  rw [← lessMax_apply l i, ← e (ix1 0)]
  unfold logSoftmax
  generalize lessMax l = d
  rw [← spread_log (rowSum d) i]
  rfl

/-! ## The reference's result -/

variable (m : (ℓ : Loc nD τ sig) → Buf (Elt Ideal) ℓ)

/-- The arguments of a core, as the mathematics takes them. -/
def args (c : Dev nD) : Args where
  x t := m ((c : Thread nD τ).loc main_arg0) (ix1 t)
  E r e := m ((c : Thread nD τ).loc main_arg1) (ix2 r e)
  w1 r q := m ((c : Thread nD τ).loc main_arg2) (ix2 r q)
  b1 q := m ((c : Thread nD τ).loc main_arg3) (ix1 q)
  w2 q v := m ((c : Thread nD τ).loc main_arg4) (ix2 q v)
  b2 v := m ((c : Thread nD τ).loc main_arg5) (ix1 v)

/-- The logits of a core. -/
def logitsOf (c : Dev nD) : Vec Ideal S1x100000 .f32 :=
  logits (hid (emb (m ((c : Thread nD τ).loc main_arg0)) (m ((c : Thread nD τ).loc main_arg1)))
    (m ((c : Thread nD τ).loc main_arg2)) (m ((c : Thread nD τ).loc main_arg3)))
    (m ((c : Thread nD τ).loc main_arg4)) (m ((c : Thread nD τ).loc main_arg5))

theorem res_eq (c : Dev nD) : res_main_v9 m c = logSoftmax (logitsOf m c) := by
  unfold res_main_v9
  rfl

section Result

variable (c : Dev nD) (hx : ∀ y, (show BitVec 32 from m ((c : Thread nD τ).loc main_arg0) y).toNat < 100000)

include hx in
/-- The logits are the mathematics' logits. -/
theorem logitsOf_apply (v : Fin 100000) : logitsOf m c (ix2 0 v) = logit (args m c) v := by
  unfold logitsOf
  rw [logits_apply]
  refine congrArg₂ (fun a b : EReal => a + b) (Finset.sum_congr rfl fun q _ => congrArg₂ (fun a b : EReal => a * b) ?_ rfl) rfl
  rw [hid_apply]
  refine congrArg Ideal.tanh (congrArg₂ (fun a b : EReal => a + b) (Finset.sum_congr rfl fun t _ => Finset.sum_congr rfl fun e _ =>
    congrArg₂ (fun a b : EReal => a * b) ?_ rfl) rfl)
  exact emb_apply _ hx _ t e

include hx in
/-- The largest logit is the mathematics' largest. -/
theorem sup_logits : (Finset.univ.sup fun v : Fin 100000 => (logitsOf m c (ix2 0 v) : EReal)) = top (args m c) := by
  have e := mx_add (lm (args m c)) 0 100000
  have e0 : mx (lm (args m c)) 0 = ⊥ := rfl
  rw [e0, max_eq_right bot_le, Nat.zero_add] at e
  refine Eq.trans (Finset.sup_congr rfl fun v _ => ?_) e.symm
  rw [logitsOf_apply m c hx, Nat.zero_add, lm_of_lt _ v.isLt]

include hx in
/-- The sum of the exponentials is the mathematics' sum. -/
theorem sum_logits (M : EReal) :
    (∑ v : Fin 100000, Ideal.exp ((logitsOf m c (ix2 0 v) : EReal) - M)) = sm (lm (args m c)) M 100000 := by
  have e := sm_add (lm (args m c)) M 0 100000
  have e0 : sm (lm (args m c)) M 0 = 0 := rfl
  rw [e0, Nat.zero_add, zero_add] at e
  refine Eq.trans (Finset.sum_congr rfl fun v _ => ?_) e.symm
  rw [logitsOf_apply m c hx, Nat.zero_add, lm_of_lt _ v.isLt]

include hx in
/-- The reference's result at a column. -/
theorem res_apply (v : Fin 100000) :
    res_main_v9 m c (ix2 0 v)
      = (logit (args m c) v - top (args m c) - Ideal.log (sm (lm (args m c)) (top (args m c)) 100000) : EReal) := by
  rw [res_eq, logSoftmax_apply, sup_logits m c hx, sum_logits m c hx, logitsOf_apply m c hx]

end Result

end Cert.ReferenceIdeal.Value

end
-- ==== Proof.Value.Equation.lean ====
/-
  The equation: from equal arguments that meet the precondition, the reference's result is the array the kernel leaves.
-/
module

public import proofs.«01_k».proof.Defs
public import proofs.«01_k».proof.Proof.KernelIdeal.Args
public import proofs.«01_k».proof.Proof.Value.Result
public import proofs.«01_k».proof.Proof.Value.Reference

@[expose] public section

set_option maxRecDepth 16384

noncomputable section

namespace Cert.Proof

open Idealize.ShloMosaic Idealize.ShloMosaic.ValueIdx Idealize.SL.Sem Cert.Model

/-- The reference's result at a column is the mathematics' result there, when no logit is plus infinity. -/
theorem reference_result (m : (ℓ : Loc Cert.ReferenceIdeal.nD Cert.ReferenceIdeal.τ Cert.ReferenceIdeal.sig) → Buf (Elt Ideal) ℓ)
    (c : Dev Cert.ReferenceIdeal.nD) (A : Args) (hA : Cert.ReferenceIdeal.Value.args m c = A)
    (hx : ∀ t, (A.x t).toNat < 100000) (hw : ∀ q v, A.w2 q v ≠ ⊤ ∧ A.w2 q v ≠ ⊥) (hb : ∀ v, A.b2 v ≠ ⊤)
    (i : Cert.ReferenceIdeal.S1x100000.Idx) :
    Cert.ReferenceIdeal.Value.res_main_v9 m c i = result A (i 1) := by
  subst hA
  have e : i = ix2 (0 : Fin 1) (i 1) := (Cert.ReferenceIdeal.Value.columns.right_inv i).symm
  refine Eq.trans ?_ (result_eq _ hw hb (i 1)).symm
  refine (congrArg (Cert.ReferenceIdeal.Value.res_main_v9 m c) e).trans (Cert.ReferenceIdeal.Value.res_apply m c (fun y => ?_) (i 1))
  have ey := eq_ix1 y
  rw [ey]
  exact hx (y 0)

/-- The kernel and the reference leave equal results over the extended reals. -/
theorem equal_results : Cert.algebraic_KernelIdeal_ReferenceIdeal_pre_rows_exist_logits_below_inf
    (hKernelIdeal := Cert.KernelIdeal.Gen.facts) (hReferenceIdeal := Cert.ReferenceIdeal.Gen.facts)
    (hPre_rows_exist_logits_below_inf := Cert.Pre_rows_exist_logits_below_inf.Gen.facts) := by
  intro m g m' g' h agree
  have hrow (c : Dev Cert.KernelIdeal.nD) (y) := Cert.Args.rows_of' _ _ _ _ _ _ (h c).1 y
  have hw (c : Dev Cert.KernelIdeal.nD) (q : Fin 100) (v : Fin 100000) := Cert.Args.weights_of _ _ _ _ _ _ (h c).2.1 (ix2 q v)
  have hb (c : Dev Cert.KernelIdeal.nD) (v : Fin 100000) := Cert.Args.bias_of _ _ _ _ _ _ (h c).2.2 (ix1 v)
  refine ⟨Cert.KernelIdeal.Value.whole m,
    Cert.KernelIdeal.Value.kernel_run m g (fun c => lm_ne_top (Cert.KernelIdeal.Value.args m c) (hw c) (hb c)) hrow,
    (θ_run Cert.ReferenceIdeal.defs _ _).mono (fun r hr c => ⟨(hr c).1.trans ?_, (hr c).2⟩) (Cert.ReferenceIdeal.Value.run m' g')⟩
  have hA : Cert.ReferenceIdeal.Value.args m' c = Cert.KernelIdeal.Value.args m c := by
    obtain ⟨e0, e1, e2, e3, e4, e5⟩ := agree c
    unfold Cert.ReferenceIdeal.Value.args Cert.KernelIdeal.Value.args
    rw [Args.mk.injEq]
    exact ⟨funext fun t => congrFun e0 (ix1 t), funext fun r => funext fun e => congrFun e1 (ix2 r e),
      funext fun r => funext fun q => congrFun e2 (ix2 r q), funext fun q => congrFun e3 (ix1 q),
      funext fun q => funext fun v => congrFun e4 (ix2 q v), funext fun v => congrFun e5 (ix1 v)⟩
  exact funext fun i => reference_result m' c _ hA (fun t => hrow c (ix1 t)) (hw c) (hb c) i

end Cert.Proof

end
-- ==== Proof.lean ====
/-
  The claims, assembled: the two kernels' frames, the reference's frame, and the equality of the results over the
  extended reals.
-/
module

public import proofs.«01_k».proof.Defs
public import proofs.«01_k».proof.Proof.Kernel.Quiet
public import proofs.«01_k».proof.Proof.KernelIdeal.Quiet
public import proofs.«01_k».proof.Proof.KernelIdeal.Args
public import proofs.«01_k».proof.Proof.Gen.ReferenceIdeal.Run
public import proofs.«01_k».proof.Proof.Value.Equation

@[expose] public section

noncomputable section

namespace Cert.Proof

open Idealize.ShloMosaic Idealize.SL.Sem

/-- The kernel over machine floats: every run ends, arguments kept, semaphores at zero. -/
theorem frame_bits : Cert.quiescent_Kernel (hKernel := Cert.Kernel.Gen.facts)
    (hPre_rows_exist := Cert.Pre_rows_exist.Gen.facts) :=
  fun m g h => Cert.Kernel.Hand.quiet m g fun c y => Cert.Args.rows_of _ _ _ _ _ _ (h c) y

/-- The same over the extended reals. -/
theorem frame_ideal : Cert.quiescent_KernelIdeal (hKernelIdeal := Cert.KernelIdeal.Gen.facts)
    (hPre_rows_exist := Cert.Pre_rows_exist.Gen.facts) :=
  fun m g h => Cert.KernelIdeal.Hand.quiet m g fun c y => Cert.Args.rows_of _ _ _ _ _ _ (h c) y

/-- The same under the second precondition. -/
theorem frame_ideal' : Cert.quiescent_KernelIdeal_pre_rows_exist_logits_below_inf (hKernelIdeal := Cert.KernelIdeal.Gen.facts)
    (hPre_rows_exist_logits_below_inf := Cert.Pre_rows_exist_logits_below_inf.Gen.facts) :=
  fun m g h => Cert.KernelIdeal.Hand.quiet m g fun c y => Cert.Args.rows_of' _ _ _ _ _ _ (h c).1 y

/-- The reference is a straight line of host operations: every run ends, its arguments as they were, and it has no
    semaphore to leave up. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The reference's frame under the second precondition. -/
theorem frame_reference' : Cert.quiescent_ReferenceIdeal_pre_rows_exist_logits_below_inf
    (hReferenceIdeal := Cert.ReferenceIdeal.Gen.facts)
    (hPre_rows_exist_logits_below_inf := Cert.Pre_rows_exist_logits_below_inf.Gen.facts) :=
  fun m g _ => (θ_run Cert.ReferenceIdeal.defs _ _).mono
    (fun r h => ⟨fun c => (h c).2, sem_eq_zero_of_no_sems (by decide) r.2⟩) (Cert.ReferenceIdeal.Value.run m g)

/-- The frames, the idealization and the equality. -/
theorem claim : Cert.Claim :=
  ⟨Cert.Kernel.Gen.facts, Cert.KernelIdeal.Gen.facts, Cert.ReferenceIdeal.Gen.facts, Cert.Pre_rows_exist.Gen.facts,
    Cert.Pre_rows_exist_logits_below_inf.Gen.facts, frame_bits, frame_ideal, frame_ideal', frame_reference, frame_reference',
    trivial, equal_results⟩

end Cert.Proof

end
